-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x32 .f32) (main_arg2 : IVec S2048x2 32) (main_arg3 : FVec F S4x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 32#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Pre_finite_and_in_range_ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x32 .f32) (main_arg2 : IVec S2048x2 32) (main_arg3 : FVec F S32x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 32#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S256x1024 : Shape := ⟨2, ![256, 1024]⟩
abbrev S8x256x512 : Shape := ⟨3, ![8, 256, 512]⟩
abbrev S7 : Shape := ⟨1, ![7]⟩
abbrev S2048x32 : Shape := ⟨2, ![2048, 32]⟩
abbrev S2048 : Shape := ⟨1, ![2048]⟩
abbrev S2048x1 : Shape := ⟨2, ![2048, 1]⟩
abbrev S_ : Shape := ⟨0, ![]⟩
abbrev S256x512 : Shape := ⟨2, ![256, 512]⟩
abbrev S256x1 : Shape := ⟨2, ![256, 1]⟩
abbrev S1x512x512 : Shape := ⟨3, ![1, 512, 512]⟩
abbrev S512x512 : Shape := ⟨2, ![512, 512]⟩
abbrev S1x256x512 : Shape := ⟨3, ![1, 256, 512]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S4x512x1024, .f32⟩
  | .hbm, ⟨4, _⟩ => ⟨S256x1024, .f32⟩
  | .local _ .vmem, ⟨0, _⟩ => ⟨S2048x512, .f32⟩
  | .local _ .vmem, ⟨1, _⟩ => ⟨S512x32, .f32⟩
  | .local _ .vmem, ⟨2, _⟩ => ⟨S2048x2, .i32⟩
  | .local _ .vmem, ⟨3, _⟩ => ⟨S4x512x1024, .f32⟩
  | .local _ .vmem, ⟨4, _⟩ => ⟨S256x1024, .f32⟩
  | .local _ .vmem, ⟨5, _⟩ => ⟨S8x256x512, .bf16⟩
  | .local _ .vmem, ⟨6, _⟩ => ⟨S8x256x512, .bf16⟩
  | .local _ .vmem, ⟨7, _⟩ => ⟨S2048x2, .f32⟩
  | .local _ .vmem, ⟨8, _⟩ => ⟨S4x512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_28 : BitVec 32 := 1#32
  let v55 : BitVec 32 := Scalar.muli v5 c1_i32_28
  let v56 : BitVec 32 := Scalar.addi c0_i32 v55
  v56.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_30 : BitVec 32 := 1#32
  let v57 : BitVec 32 := Scalar.muli v7 c1_i32_30
  let v58 : BitVec 32 := Scalar.addi c0_i32_31 v57
  v58.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c256_i32 : BitVec 32 := 256#32
  let v59 : BitVec 32 := Scalar.muli v5 c256_i32
  let v60 : Index := Scalar.indexCast v59
  let c0_32 : Index := 0#32
  ![v60.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c256_i32 : BitVec 32 := 256#32
  let v59 : BitVec 32 := Scalar.muli v5 c256_i32
  let v63 : Index := Scalar.indexCast v59
  let c0_33 : Index := 0#32
  ![v63.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c256_i32 : BitVec 32 := 256#32
  let v59 : BitVec 32 := Scalar.muli v5 c256_i32
  let v66 : Index := Scalar.indexCast v59
  let c1_34 : Index := 1#32
  ![v66.toNat, 1]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c256_i32_69 : BitVec 32 := 256#32
  let v150 : BitVec 32 := Scalar.muli v7 c256_i32_69
  let v151 : Index := Scalar.indexCast v150
  let c0_70 : Index := 0#32
  ![v151.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c256_i32_69 : BitVec 32 := 256#32
  let v150 : BitVec 32 := Scalar.muli v7 c256_i32_69
  let v154 : Index := Scalar.indexCast v150
  let c0_71 : Index := 0#32
  ![v154.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c256_i32_69 : BitVec 32 := 256#32
  let v150 : BitVec 32 := Scalar.muli v7 c256_i32_69
  let v157 : Index := Scalar.indexCast v150
  let c1_72 : Index := 1#32
  ![v157.toNat, 1]
def k0_dev3 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_114 : BitVec 32 := 1#32
  let v241 : BitVec 32 := Scalar.muli v7 c1_i32_114
  let v242 : BitVec 32 := Scalar.addi c0_i32_115 v241
  v242.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_124 : BitVec 32 := 1#32
  let v251 : BitVec 32 := Scalar.muli v5 c1_i32_124
  let v252 : BitVec 32 := Scalar.addi c0_i32_125 v251
  v252.toNat
def k0_off7 (d0 : Dev nD) (c0_i32_131 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_130 : BitVec 32 := 2#32
  let v261 : BitVec 32 := Scalar.subi v2 c2_i32_130
  let v262 : BitVec 32 := Scalar.subi v261 c0_i32_131
  let c16_i32 : BitVec 32 := 16#32
  let v263 : BitVec 32 := Scalar.addi v262 c16_i32
  let c8_i32_132 : BitVec 32 := 8#32
  let v264 : BitVec 32 := Scalar.remsi v263 c8_i32_132
  let c256_i32_136 : BitVec 32 := 256#32
  let v268 : BitVec 32 := Scalar.muli v264 c256_i32_136
  let v269 : Index := Scalar.indexCast v268
  let c0_137 : Index := 0#32
  ![v269.toNat, 0]
def k0_off8 (d0 : Dev nD) (c0_i32_131 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_130 : BitVec 32 := 2#32
  let v261 : BitVec 32 := Scalar.subi v2 c2_i32_130
  let v262 : BitVec 32 := Scalar.subi v261 c0_i32_131
  let c16_i32 : BitVec 32 := 16#32
  let v263 : BitVec 32 := Scalar.addi v262 c16_i32
  let c8_i32_132 : BitVec 32 := 8#32
  let v264 : BitVec 32 := Scalar.remsi v263 c8_i32_132
  let c256_i32_136 : BitVec 32 := 256#32
  let v268 : BitVec 32 := Scalar.muli v264 c256_i32_136
  let v272 : Index := Scalar.indexCast v268
  let c0_138 : Index := 0#32
  ![v272.toNat, 0]
def k0_off9 (d0 : Dev nD) (c0_i32_131 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_130 : BitVec 32 := 2#32
  let v261 : BitVec 32 := Scalar.subi v2 c2_i32_130
  let v262 : BitVec 32 := Scalar.subi v261 c0_i32_131
  let c16_i32 : BitVec 32 := 16#32
  let v263 : BitVec 32 := Scalar.addi v262 c16_i32
  let c8_i32_132 : BitVec 32 := 8#32
  let v264 : BitVec 32 := Scalar.remsi v263 c8_i32_132
  let c256_i32_136 : BitVec 32 := 256#32
  let v268 : BitVec 32 := Scalar.muli v264 c256_i32_136
  let v275 : Index := Scalar.indexCast v268
  let c1_139 : Index := 1#32
  ![v275.toNat, 1]
def k0_off10 (d0 : Dev nD) (c0_i32_134 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_133 : BitVec 32 := 2#32
  let v265 : BitVec 32 := Scalar.addi v2 c2_i32_133
  let v266 : BitVec 32 := Scalar.addi v265 c0_i32_134
  let c8_i32_135 : BitVec 32 := 8#32
  let v267 : BitVec 32 := Scalar.remsi v266 c8_i32_135
  let c256_i32_175 : BitVec 32 := 256#32
  let v355 : BitVec 32 := Scalar.muli v267 c256_i32_175
  let v356 : Index := Scalar.indexCast v355
  let c0_176 : Index := 0#32
  ![v356.toNat, 0]
def k0_off11 (d0 : Dev nD) (c0_i32_134 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_133 : BitVec 32 := 2#32
  let v265 : BitVec 32 := Scalar.addi v2 c2_i32_133
  let v266 : BitVec 32 := Scalar.addi v265 c0_i32_134
  let c8_i32_135 : BitVec 32 := 8#32
  let v267 : BitVec 32 := Scalar.remsi v266 c8_i32_135
  let c256_i32_175 : BitVec 32 := 256#32
  let v355 : BitVec 32 := Scalar.muli v267 c256_i32_175
  let v359 : Index := Scalar.indexCast v355
  let c0_177 : Index := 0#32
  ![v359.toNat, 0]
def k0_off12 (d0 : Dev nD) (c0_i32_134 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_133 : BitVec 32 := 2#32
  let v265 : BitVec 32 := Scalar.addi v2 c2_i32_133
  let v266 : BitVec 32 := Scalar.addi v265 c0_i32_134
  let c8_i32_135 : BitVec 32 := 8#32
  let v267 : BitVec 32 := Scalar.remsi v266 c8_i32_135
  let c256_i32_175 : BitVec 32 := 256#32
  let v355 : BitVec 32 := Scalar.muli v267 c256_i32_175
  let v362 : Index := Scalar.indexCast v355
  let c1_178 : Index := 1#32
  ![v362.toNat, 1]
def k0_dev5 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_268 : BitVec 32 := 1#32
  let v486 : BitVec 32 := Scalar.muli v7 c1_i32_268
  let v487 : BitVec 32 := Scalar.addi c0_i32_269 v486
  v487.toNat
def k0_dev6 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_278 : BitVec 32 := 1#32
  let v496 : BitVec 32 := Scalar.muli v5 c1_i32_278
  let v497 : BitVec 32 := Scalar.addi c0_i32_279 v496
  v497.toNat
def k0_dev7 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_423 : BitVec 32 := 1#32
  let v731 : BitVec 32 := Scalar.muli v7 c1_i32_423
  let v732 : BitVec 32 := Scalar.addi c0_i32_424 v731
  v732.toNat
def k0_dev8 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_433 : BitVec 32 := 1#32
  let v741 : BitVec 32 := Scalar.muli v5 c1_i32_433
  let v742 : BitVec 32 := Scalar.addi c0_i32_434 v741
  v742.toNat
def k0_dev9 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_578 : BitVec 32 := 1#32
  let v976 : BitVec 32 := Scalar.muli v7 c1_i32_578
  let v977 : BitVec 32 := Scalar.addi c0_i32_579 v976
  v977.toNat
def k0_dev10 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_588 : BitVec 32 := 1#32
  let v986 : BitVec 32 := Scalar.muli v5 c1_i32_588
  let v987 : BitVec 32 := Scalar.addi c0_i32_589 v986
  v987.toNat
def k0_dev11 (d0 : Dev nD) : Nat :=
  let c0_i32_732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_731 : BitVec 32 := 1#32
  let v1221 : BitVec 32 := Scalar.muli v7 c1_i32_731
  let v1222 : BitVec 32 := Scalar.addi c0_i32_732 v1221
  v1222.toNat
def k0_dev12 (d0 : Dev nD) : Nat :=
  let c0_i32_742 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_741 : BitVec 32 := 1#32
  let v1231 : BitVec 32 := Scalar.muli v5 c1_i32_741
  let v1232 : BitVec 32 := Scalar.addi c0_i32_742 v1231
  v1232.toNat
def k0_dev13 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_884 : BitVec 32 := 1#32
  let v1466 : BitVec 32 := Scalar.muli v7 c1_i32_884
  let v1467 : BitVec 32 := Scalar.addi c0_i32_885 v1466
  v1467.toNat
def k0_dev14 (d0 : Dev nD) : Nat :=
  let c0_i32_895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_894 : BitVec 32 := 1#32
  let v1476 : BitVec 32 := Scalar.muli v5 c1_i32_894
  let v1477 : BitVec 32 := Scalar.addi c0_i32_895 v1476
  v1477.toNat
def k0_dev15 (d0 : Dev nD) : Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1037 : BitVec 32 := 1#32
  let v1711 : BitVec 32 := Scalar.muli v7 c1_i32_1037
  let v1712 : BitVec 32 := Scalar.addi c0_i32_1038 v1711
  v1712.toNat
def k0_dev16 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1047 : BitVec 32 := 1#32
  let v1721 : BitVec 32 := Scalar.muli v5 c1_i32_1047
  let v1722 : BitVec 32 := Scalar.addi c0_i32_1048 v1721
  v1722.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x2, .i32⟩
  | .hbm, ⟨3, _⟩ => ⟨S32x512x1024, .f32⟩
  | .hbm, ⟨4, _⟩ => ⟨S2048x32, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x32, .f32⟩
  | .hbm, ⟨15, _⟩ => ⟨S2048x32, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S2048x1, .i32⟩
  | .hbm, ⟨36, _⟩ => ⟨S2048x1, .i32⟩
  | .hbm, ⟨37, _⟩ => ⟨S2048x2, .i32⟩
  | .hbm, ⟨38, _⟩ => ⟨S2048, .f32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S2048x1, .i32⟩
  | .hbm, ⟨54, _⟩ => ⟨S2048x1, .i32⟩
  | .hbm, ⟨55, _⟩ => ⟨S2048x2, .i32⟩
  | .hbm, ⟨56, _⟩ => ⟨S2048, .f32⟩
  | .hbm, ⟨57, _⟩ => ⟨S2048, .f32⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048x1, .i32⟩
  | .hbm, ⟨66, _⟩ => ⟨S2048x512x1024, .f32⟩
  | .hbm, ⟨67, _⟩ => ⟨S2048x1024, .f32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S2048x512x1024, .f32⟩
  | .hbm, ⟨77, _⟩ => ⟨S2048x1024, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Slots.lean ====
/-
The eight slots of a ring buffer.

Each device holds two buffers of eight slots, one for each direction of the ring. A slot is taken and given away
on its own: the owner stores into it, a transfer reads it, and a transfer from a neighbour fills it. This module
names a slot, says what it is to own one at given contents, and states once, for every buffer and every slot, what a
load from a slot, a store into a slot and the division of a whole buffer into its slots do.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the ring's protocol: its duties are named by a direction. -/
abbrev UB : Type := URounds (GSem nD τ sig) Bool
/-- The ghost state of the whole run: the staging transfers' and the ring's. -/
abbrev UU : Type := UR sig nD τ × UB

local notation "𝕄" => MT nD τ sig Unit (Elt F) ℕ UU ℕ

/-- The memrefs a ring buffer is named by. -/
abbrev RingMemref : Type := Memref sig .tc .vmem S8x256x512 .bf16

theorem slot_inb (k : ℕ) (hk : k < 8) : ∀ a, (![k, 0, 0] : Fin 3 → ℕ) a + S1x256x512.size a ≤ S8x256x512.size a := by
  intro a
  fin_cases a
  · show k + 1 ≤ 8; omega
  · exact Nat.le_refl _
  · exact Nat.le_refl _

/-- The rectangle of slot `k`. -/
abbrev slotR (k : ℕ) (hk : k < 8) : Rect S8x256x512 :=
  Rect.unit (s := S8x256x512) ![k, 0, 0] S1x256x512.size (slot_inb k hk)

/-- Slot `k` of the buffer `M`, as a matrix. -/
abbrev slotM (M : RingMemref) (k : ℕ) (hk : k < 8) : Memref sig .tc .vmem S256x512 .bf16 :=
  (M.slice (slotR k hk) (fun _ => rfl)).squeeze S256x512 squeezes_S1x256x512_S256x512

/-- Device `c` owns slot `k` of its buffer `M`, and it reads `v`. -/
def slotOwn (M : RingMemref) (c : Dev nD) (k : ℕ) (hk : k < 8) (v : Vec F S256x512 .bf16) : sProp 𝕄 :=
  owns (c : Thread nD τ) (slotM M k hk) fullShare v

/-- Device `c` owns slot `k` of its buffer `M`, at whatever contents. -/
def slotAny (M : RingMemref) (c : Dev nD) (k : ℕ) (hk : k < 8) : sProp 𝕄 :=
  iprop(∃ v : Vec F S256x512 .bf16, slotOwn M c k hk v)

omit [FloatOps F] in
instance slotOwn_storable (M : RingMemref) (c : Dev nD) (k : ℕ) (hk : k < 8) (v : Vec F S256x512 .bf16) :
    BI.Storable (upEmb : UEmb _ 𝕄) (slotOwn (F := F) M c k hk v) := by unfold slotOwn; infer_instance

omit [FloatOps F] in
instance slotAny_storable (M : RingMemref) (c : Dev nD) (k : ℕ) (hk : k < 8) :
    BI.Storable (upEmb : UEmb _ 𝕄) (slotAny (F := F) M c k hk) := by unfold slotAny; infer_instance

omit [FloatOps F] in
/-- Owning a slot at some contents forgets them. -/
theorem slotAny_intro (M : RingMemref) (c : Dev nD) (k : ℕ) (hk : k < 8) (v : Vec F S256x512 .bf16) :
    slotOwn M c k hk v ⊢ slotAny M c k hk := by
  unfold slotAny
  iintro H
  iexists v
  iexact H

/-- The elements of a slot are those under its rectangle. -/
theorem slotM_set (M : RingMemref) (k : ℕ) (hk : k < 8) : (slotM M k hk).view.set = M.view.setOn (slotR k hk).set := by
  show ((M.view.slice (slotR k hk)).reshape S256x512 _).set = _
  rw [View.set_reshape, View.set_slice]
  rfl

abbrev 𝒱₀ : Variants := Variants.none

/-- A load from a slot, as the kernel writes it, reads the slot with a leading axis of size one. -/
theorem wp_slot_load (M : RingMemref) (c : Dev nD) (k : ℕ) (hk : k < 8) (v : Vec F S256x512 .bf16)
    {hl : M.view.LoadsAt (slotR k hk).toLoadRect} {α : Type} {Q : α → sProp 𝕄}
    {kk : Vec F S1x256x512 .bf16 → Prog (TpuEff nD τ sig (Elt F) Λ₀ .tc) α} :
    slotOwn M c k hk v
      ⊢ iprop((∀ x : Vec F S1x256x512 .bf16, ⌜shapeCast S256x512 x shapeCasts_S1x256x512_S256x512 = v⌝ -∗ slotOwn M c k hk v
            -∗ wp frame (wpE (defs₀ (F := F)) 𝒱₀ (c : Thread nD τ) none) Set.univ (kk x) Q)
          -∗ wp frame (wpE (defs₀ (F := F)) 𝒱₀ (c : Thread nD τ) none) Set.univ (.op (.load M (slotR k hk).toLoadRect hl) kk) Q) := by
  unfold slotOwn owns
  iintro ⟨%f, %hf, H⟩ Hk
  iapply (wp_load 𝒱₀ (c : Thread nD τ) none Set.univ (m := M) (r := (slotR k hk).toLoadRect) (by rw [slotM_set])) $$ H
  iintro H
  ispecialize Hk $$ %(M.view.readAt (Elt F) (slotR k hk).toLoadRect f)
  iapply Hk
  · ipureintro
    rw [← hf]
    rfl
  · iexists f
    isplitr
    · ipureintro; exact hf
    · iexact H

/-- The same with the slot's contents unknown and the value read left unknown too: the loads the kernel writes before
    its stores, whose values it does not use. -/
theorem wp_slot_load_any (M : RingMemref) (c : Dev nD) (k : ℕ) (hk : k < 8)
    {hl : M.view.LoadsAt (slotR k hk).toLoadRect} {α : Type} {Q : α → sProp 𝕄}
    {kk : Vec F S1x256x512 .bf16 → Prog (TpuEff nD τ sig (Elt F) Λ₀ .tc) α} :
    slotAny (F := F) M c k hk
      ⊢ iprop((∀ x : Vec F S1x256x512 .bf16, slotAny (F := F) M c k hk
            -∗ wp frame (wpE (defs₀ (F := F)) 𝒱₀ (c : Thread nD τ) none) Set.univ (kk x) Q)
          -∗ wp frame (wpE (defs₀ (F := F)) 𝒱₀ (c : Thread nD τ) none) Set.univ (.op (.load M (slotR k hk).toLoadRect hl) kk) Q) := by
  unfold slotAny
  iintro ⟨%v, H⟩ Hk
  iapply (wp_slot_load M c k hk v) $$ H
  iintro %x %hx H
  ispecialize Hk $$ %x
  iapply Hk
  iexists v
  iexact H

/-- A store into a slot leaves it reading what was stored, its leading axis dropped. -/
theorem wp_slot_store (M : RingMemref) (c : Dev nD) (k : ℕ) (hk : k < 8) (w : Vec F S1x256x512 .bf16)
    (v : Vec F S256x512 .bf16) (hv : shapeCast S256x512 w shapeCasts_S1x256x512_S256x512 = v)
    {hx : (M.access (slotR k hk)).Stores Finset.univ} {hm} {α : Type} {Q : α → sProp 𝕄}
    {kk : PUnit → Prog (TpuEff nD τ sig (Elt F) Λ₀ .tc) α} :
    slotAny (F := F) M c k hk
      ⊢ iprop((slotOwn M c k hk v -∗ wp frame (wpE (defs₀ (F := F)) 𝒱₀ (c : Thread nD τ) none) Set.univ (kk ⟨⟩) Q)
          -∗ wp frame (wpE (defs₀ (F := F)) 𝒱₀ (c : Thread nD τ) none) Set.univ (.op (.store M (slotR k hk) w Finset.univ hx hm) kk) Q) := by
  unfold slotAny slotOwn owns
  iintro ⟨%u, %f, %hf, H⟩ Hk
  iapply (wp_store 𝒱₀ (c : Thread nD τ) none Set.univ (m := M) (r := slotR k hk) (Mk := Finset.univ)
    (by rw [slotM_set, View.setOn_univ, View.set_slice]; exact subset_rfl)) $$ H
  iintro H
  iapply Hk
  iexists _
  isplitr
  rotate_left
  · iexact H
  · ipureintro
    rw [← hv]
    have h : ((M.access (slotR k hk)).read (Elt F) ((M.access (slotR k hk)).write (Elt F) f w Finset.univ)) = w := by
      funext x
      rw [View.read_write_univ]
    funext y
    exact congrFun h (Shape.reshapeEquiv _ y)

/-- The eight slots' rectangles are apart. -/
theorem slotR_disjoint (j k : Fin 8) (h : j ≠ k) : Disjoint (slotR j.val j.isLt).set (slotR k.val k.isLt).set := by
  have h' : j.val ≠ k.val := fun e => h (Fin.ext e)
  refine Rect.unit_disjoint (0 : Fin 3) ?_
  show j.val + 1 ≤ k.val ∨ k.val + 1 ≤ j.val
  omega

/-- Together they are the whole buffer. -/
theorem slotR_cover : (Finset.univ : Finset (Fin 8)).biUnion (fun k => (slotR k.val k.isLt).set) = Finset.univ := by
  ext i
  refine ⟨fun _ => Finset.mem_univ _, fun _ => Finset.mem_biUnion.mpr ⟨(i (0 : Fin 3)), Finset.mem_univ _, ?_⟩⟩
  refine Rect.mem_set_unit.mpr fun a => ?_
  fin_cases a
  · exact ⟨Nat.le_refl _, Nat.lt_succ_self _⟩
  · exact ⟨Nat.zero_le _, by simpa using (i (1 : Fin 3)).isLt⟩
  · exact ⟨Nat.zero_le _, by simpa using (i (2 : Fin 3)).isLt⟩

/-- The elements of a slot, as those of the slice it is the matrix of. -/
theorem slotM_set_slice (M : RingMemref) (k : ℕ) (hk : k < 8) : (slotM M k hk).view.set = (M.view.slice (slotR k hk)).set :=
  View.set_reshape (v := M.view.slice (slotR k hk)) _

omit [FloatOps F] in
/-- A slot at whatever contents is its elements at whatever contents. -/
theorem slotAny_eq (M : RingMemref) (c : Dev nD) (k : ℕ) (hk : k < 8) :
    (slotAny (F := F) M c k hk : sProp 𝕄)
      ⊣⊢ iprop(∃ f : Buf (Elt F) (M.view.loc (c : Thread nD τ)), M.view.loc (c : Thread nD τ) ↦[(M.view.slice (slotR k hk)).set]{fullShare} f) := by
  rw [← slotM_set_slice]
  unfold slotAny slotOwn owns
  constructor
  · iintro ⟨%v, %f, %hf, H⟩
    iexists f
    iexact H
  · iintro ⟨%f, H⟩
    iexists ((slotM M k hk).view.read (Elt F) f)
    iexists f
    isplitr
    · ipureintro; rfl
    · iexact H

omit [FloatOps F] in
/-- A slot owned as a slice of its buffer is a slot owned as a matrix. -/
theorem slotAny_of_slice (M : RingMemref) (c : Dev nD) (k : ℕ) (hk : k < 8) (X : (slotR k hk).shape.Idx → Elt F .bf16) :
    owns (c : Thread nD τ) (M.slice (slotR k hk) (fun _ => rfl)) fullShare X ⊢ (slotAny (F := F) M c k hk : sProp 𝕄) := by
  refine BIBase.Entails.trans ?_ (slotAny_eq M c k hk).2
  unfold owns
  iintro ⟨%f, %hf, H⟩
  iexists f
  iexact H

omit [FloatOps F] in
/-- A whole buffer is its eight slots. -/
theorem slots_split (M : RingMemref) (c : Dev nD) (f : Buf (Elt F) (M.view.loc (c : Thread nD τ))) :
    (M.view.loc (c : Thread nD τ) ↦[M.view.set]{fullShare} f : sProp 𝕄)
      ⊢ bigSep Finset.univ fun k : Fin 8 => slotAny (F := F) M c k.val k.isLt := by
  rw [pointsTo_rects (c : Thread nD τ) M fullShare (fun k : Fin 8 => slotR k.val k.isLt) (fun _ _ => rfl) slotR_disjoint slotR_cover f]
  exact bigSep_mono fun k _ => slotAny_of_slice M c k.val k.isLt _

omit [FloatOps F] in
/-- And its eight slots, at whatever contents, are the whole buffer at some contents. -/
theorem slots_join (M : RingMemref) (c : Dev nD) (f₀ : Buf (Elt F) (M.view.loc (c : Thread nD τ))) :
    (bigSep Finset.univ fun k : Fin 8 => (slotAny (F := F) M c k.val k.isLt : sProp 𝕄))
      ⊢ iprop(∃ f : Buf (Elt F) (M.view.loc (c : Thread nD τ)), M.view.loc (c : Thread nD τ) ↦[M.view.set]{fullShare} f) := by
  iintro H0
  ihave H := (show (bigSep Finset.univ fun k : Fin 8 => (slotAny (F := F) M c k.val k.isLt : sProp 𝕄)) ⊢ bigSep Finset.univ fun k : Fin 8 =>
    iprop(∃ f : Buf (Elt F) (M.view.loc (c : Thread nD τ)), M.view.loc (c : Thread nD τ) ↦[(M.view.slice (slotR k.val k.isLt)).set]{fullShare} f)
    from bigSep_mono fun k _ => (slotAny_eq M c k.val k.isLt).1) $$ H0
  haveI : Nonempty (Buf (Elt F) (M.view.loc (c : Thread nD τ))) := ⟨f₀⟩
  ihave H2 := (BI.bigSep_exists_pi Finset.univ (fun (k : Fin 8) (f : Buf (Elt F) (M.view.loc (c : Thread nD τ))) =>
    (M.view.loc (c : Thread nD τ) ↦[(M.view.slice (slotR k.val k.isLt)).set]{fullShare} f : sProp 𝕄))) $$ H
  icases H2 with ⟨%fs, H⟩
  ihave H3 := (pointsTo_biUnion_join Finset.univ (fun k : Fin 8 => (M.view.slice (slotR k.val k.isLt)).set) fs f₀
    (fun j _ k _ h => by
      rw [View.set_slice, View.set_slice]; exact (Finset.disjoint_map _).mpr (slotR_disjoint j k h))) $$ H
  icases H3 with ⟨%g, %hg, H⟩
  have hset : (Finset.univ : Finset (Fin 8)).biUnion (fun k => (M.view.slice (slotR k.val k.isLt)).set) = M.view.set := by
    ext i
    constructor
    · intro hi
      obtain ⟨k, -, hi⟩ := Finset.mem_biUnion.mp hi
      exact View.set_slice_subset _ _ hi
    · intro hi
      rw [View.set, Finset.mem_map] at hi
      obtain ⟨x, -, rfl⟩ := hi
      obtain ⟨k, -, hx⟩ := Finset.mem_biUnion.mp (slotR_cover.symm ▸ Finset.mem_univ x)
      exact Finset.mem_biUnion.mpr ⟨k, Finset.mem_univ _, by rw [View.set_slice]; exact Finset.mem_map_of_mem _ hx⟩
  iexists g
  rw [← hset]
  iexact H

end Cert.Moe

end
-- ==== Proof.Values.lean ====
/-
What the kernel computes, device by device and step by step.

A device holds the whole activation matrix, the router matrix and the routing table, and the weights of its own four
experts. It first computes the gates of every token and rounds its experts' weights; then, for one chunk of 256 tokens
at a time and for one half of the output columns, its own experts' contribution to that chunk (`partV`). The
contributions travel around the ring in both directions, one direction for each half of the columns, and each device
adds its own to what arrives (`accV`); what arrives last, with the device's own contribution added, is its block of
the result (`outAt`). Everything here is stated for any interpretation of the floats.
-/
module

public import proofs.«01_k».proof.Proof.Gen.KernelIdeal.Skeleton
public import proofs.«01_k».proof.Proof.Slots

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

set_option backward.proofsInPublic true in
/-- The device to the right. -/
def nxt (c : Dev nD) : Dev nD := ⟨(c.val + 1) % 8, Nat.mod_lt _ (by decide)⟩
set_option backward.proofsInPublic true in
/-- The device to the left. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide

/-- The device a direction's transfers go to: to the right for the first half of the columns (`false`), to the left for
    the second (`true`). -/
def dest (d : Bool) (c : Dev nD) : Dev nD := bif d then prv c else nxt c
/-- The device a direction's transfers come from. -/
def origin (d : Bool) (c : Dev nD) : Dev nD := bif d then nxt c else prv c

theorem origin_dest (d : Bool) (c : Dev nD) : origin d (dest d c) = c := by
  cases d
  · exact prv_nxt c
  · exact nxt_prv c
theorem dest_origin (d : Bool) (c : Dev nD) : dest d (origin d c) = c := by
  cases d
  · exact nxt_prv c
  · exact prv_nxt c

/-- The chunk of tokens a device contributes to at its `n`-th turn: the one it starts with at turn 0, its own at turn 7. -/
def tgt (d : Bool) (n : ℕ) (c : Dev nD) : ℕ := bif d then (c.val + n + 1) % 8 else (c.val + 15 - n) % 8

theorem tgt_lt (d : Bool) (n : ℕ) (c : Dev nD) : tgt d n c < 8 := by
  cases d <;> exact Nat.mod_lt _ (by decide)

/-! ## What is staged -/

variable (m : (ℓ : Loc nD τ sig) → Buf (Elt F) ℓ)

/-- The activations, as staged on device `c`. -/
def xstg (c : Dev nD) : (cc0_stg0_0 : Ref sig .tc).ty.Contents (Elt F) :=
  (win0_0.blk (0 : Fin 1)).view.read (Elt F) (m ((c : Thread nD τ).loc main_arg0))
/-- The router matrix. -/
def rstg (c : Dev nD) : (cc0_stg1_0 : Ref sig .tc).ty.Contents (Elt F) :=
  (win0_1.blk (0 : Fin 1)).view.read (Elt F) (m ((c : Thread nD τ).loc main_arg1))
/-- The routing table. -/
def istg (c : Dev nD) : (cc0_stg2_0 : Ref sig .tc).ty.Contents (Elt F) :=
  (win0_2.blk (0 : Fin 1)).view.read (Elt F) (m ((c : Thread nD τ).loc main_arg2))
/-- The device's four experts' weights. -/
def estg (c : Dev nD) : (cc0_stg3_0 : Ref sig .tc).ty.Contents (Elt F) :=
  (win0_3.blk (0 : Fin 1)).view.read (Elt F) (m ((c : Thread nD τ).loc main_arg3))

/-! ## The gates and the rounded weights -/

theorem col_inb (j : ℕ) (hj : j < 2) : ∀ a, (![0, j] : Fin 2 → ℕ) a + S2048x1.size a ≤ S2048x2.size a := by
  intro a
  fin_cases a
  · exact Nat.le_refl _
  · show j + 1 ≤ 2; omega

/-- Column `j` of a table of two columns. -/
abbrev colR (j : ℕ) (hj : j < 2) : Rect S2048x2 := Rect.unit (s := S2048x2) ![0, j] S2048x1.size (col_inb j hj)

abbrev xM : Memref sig .tc .vmem S2048x512 .f32 := Memref.whole cc0_stg0_0
abbrev rM : Memref sig .tc .vmem S512x32 .f32 := Memref.whole cc0_stg1_0
abbrev iM : Memref sig .tc .vmem S2048x2 .i32 := Memref.whole cc0_stg2_0
abbrev eM : Memref sig .tc .vmem S4x512x1024 .f32 := Memref.whole cc0_stg3_0
abbrev oM : Memref sig .tc .vmem S256x1024 .f32 := Memref.whole cc0_stg4_0
abbrev gM : Memref sig .tc .vmem S2048x2 .f32 := Memref.whole cc0_scratch2
abbrev wM : Memref sig .tc .vmem S4x512x1024 .bf16 := Memref.whole cc0_scratch3

/-- The routing table's column `j`. -/
def icol (c : Dev nD) (j : ℕ) (hj : j < 2) : Vec F S2048x1 .i32 := iM.view.readAt (Elt F) (colR j hj).toLoadRect (istg m c)

/-- The gate of every token's first choice. -/
def gate0 (c : Dev nD) : FVec F S2048x1 .f32 :=
  k0_pay8 (k0_pay4 (xstg m c) (rstg m c) (icol m c 0 (by decide))) (k0_pay5 (xstg m c) (rstg m c) (icol m c 1 (by decide)))
/-- The gate of every token's second choice. -/
def gate1 (c : Dev nD) : FVec F S2048x1 .f32 :=
  k0_pay9 (k0_pay4 (xstg m c) (rstg m c) (icol m c 0 (by decide))) (k0_pay5 (xstg m c) (rstg m c) (icol m c 1 (by decide)))

/-- A cell of a column. -/
def ix1 (r : Fin 2048) : S2048x1.Idx
  | ⟨0, _⟩ => r
  | ⟨1, _⟩ => (0 : Fin 1)

/-- The gates' buffer once both are stored. -/
def gbuf (c : Dev nD) : (cc0_scratch2 : Ref sig .tc).ty.Contents (Elt F) :=
  fun i : S2048x2.Idx => if (i 1).val = 0 then gate0 m c (ix1 (i 0)) else gate1 m c (ix1 (i 0))

/-- The rounded weights' buffer. -/
def wbuf (c : Dev nD) : (cc0_scratch3 : Ref sig .tc).ty.Contents (Elt F) := k0_pay10 (estg m c)

/-! ## One expert group's contribution to a chunk -/

/-- The number a device knows itself by. -/
def myWord (c : Dev nD) : BitVec 32 := Scalar.remsi (Scalar.divsi (Dev.word c) 1#32) 8#32

/-- The factor an expert weighs a chunk's tokens with: the gate of each choice that names the expert, summed. -/
def coefV (e : BitVec 32) (i0 i1 : IVec S256x1 32) (w0 w1 : Vec F S256x1 .f32) : FVec F S256x512 .f32 :=
  broadcastTo S256x512
    (addf (select (cmpi .eq i0 (broadcast S256x1 e)) w0 (broadcast S256x1 (Scalar.ofBits .f32 0x00000000#32)))
      (select (cmpi .eq i1 (broadcast S256x1 e)) w1 (broadcast S256x1 (Scalar.ofBits .f32 0x00000000#32))))
    broadcasts_S256x1_S256x512

/-- One expert's contribution: the weighed tokens, rounded, times its weights. -/
def termV (e : BitVec 32) (x : FVec F S256x512 .f32) (i0 i1 : IVec S256x1 32) (w0 w1 : Vec F S256x1 .f32)
    (w : Vec F S1x512x512 .bf16) : FVec F S256x512 .f32 :=
  matmul dot_S256x512_S512x512_S256x512_1_0_0_1_n_n none
    (truncf .bf16 (mulf x (coefV e i0 i1 w0 w1)) bitsLt_bf16_f32) (shapeCast S512x512 w shapeCasts_S1x512x512_S512x512)
    (constant S256x512 .f32 0x00000000#32)

/-- The number of the device's `j`-th expert. -/
def expertWord (my j : BitVec 32) : BitVec 32 := Scalar.addi (Scalar.muli my 4#32) j

/-- The four experts' contributions, summed from zero in order. -/
def chunkV (my : BitVec 32) (x : Vec F S256x512 .f32) (i0 i1 : Vec F S256x1 .i32) (w0 w1 : Vec F S256x1 .f32)
    (u0 u1 u2 u3 : Vec F S1x512x512 .bf16) : FVec F S256x512 .f32 :=
  addf (addf (addf (addf (broadcast S256x512 (Scalar.ofBits .f32 0x00000000#32))
    (termV (expertWord my 0#32) (shapeCast S256x512 x shapeCasts_S256x512_S256x512) (shapeCast S256x1 i0 shapeCasts_S256x1_S256x1)
      (shapeCast S256x1 i1 shapeCasts_S256x1_S256x1) w0 w1 u0))
    (termV (expertWord my 1#32) (shapeCast S256x512 x shapeCasts_S256x512_S256x512) (shapeCast S256x1 i0 shapeCasts_S256x1_S256x1)
      (shapeCast S256x1 i1 shapeCasts_S256x1_S256x1) w0 w1 u1))
    (termV (expertWord my 2#32) (shapeCast S256x512 x shapeCasts_S256x512_S256x512) (shapeCast S256x1 i0 shapeCasts_S256x1_S256x1)
      (shapeCast S256x1 i1 shapeCasts_S256x1_S256x1) w0 w1 u2))
    (termV (expertWord my 3#32) (shapeCast S256x512 x shapeCasts_S256x512_S256x512) (shapeCast S256x1 i0 shapeCasts_S256x1_S256x1)
      (shapeCast S256x1 i1 shapeCasts_S256x1_S256x1) w0 w1 u3)

theorem rows_inb (k : ℕ) (hk : k < 8) : ∀ a, (![256 * k, 0] : Fin 2 → ℕ) a + S256x512.size a ≤ S2048x512.size a := by
  intro a
  fin_cases a
  · show 256 * k + 256 ≤ 2048; omega
  · exact Nat.le_refl _

theorem cells_inb (k : ℕ) (hk : k < 8) (j : ℕ) (hj : j < 2) :
    ∀ a, (![256 * k, j] : Fin 2 → ℕ) a + S256x1.size a ≤ S2048x2.size a := by
  intro a
  fin_cases a
  · show 256 * k + 256 ≤ 2048; omega
  · show j + 1 ≤ 2; omega

/-- The first of a direction's columns. -/
abbrev colOff (d : Bool) : ℕ := bif d then 512 else 0

theorem weights_inb (d : Bool) (j : ℕ) (hj : j < 4) :
    ∀ a, (![j, 0, colOff d] : Fin 3 → ℕ) a + S1x512x512.size a ≤ S4x512x1024.size a := by
  intro a
  fin_cases a
  · show j + 1 ≤ 4; omega
  · exact Nat.le_refl _
  · cases d
    · show 0 + 512 ≤ 1024; omega
    · show 512 + 512 ≤ 1024; omega

/-- Chunk `k`'s rows of the activations. -/
abbrev rowsR (k : ℕ) (hk : k < 8) : Rect S2048x512 := Rect.unit (s := S2048x512) ![256 * k, 0] S256x512.size (rows_inb k hk)
/-- Chunk `k`'s cells of a column of a table. -/
abbrev cellsR (k : ℕ) (hk : k < 8) (j : ℕ) (hj : j < 2) : Rect S2048x2 := Rect.unit (s := S2048x2) ![256 * k, j] S256x1.size (cells_inb k hk j hj)
/-- A direction's columns of expert `j`'s weights. -/
abbrev weightsR (d : Bool) (j : ℕ) (hj : j < 4) : Rect S4x512x1024 :=
  Rect.unit (s := S4x512x1024) ![j, 0, colOff d] S1x512x512.size (weights_inb d j hj)

/-- Device `c`'s contribution to chunk `k`, on direction `d`'s columns. -/
def partV (d : Bool) (c : Dev nD) (k : ℕ) (hk : k < 8) : FVec F S256x512 .f32 :=
  chunkV (myWord c) (xM.view.readAt (Elt F) (rowsR k hk).toLoadRect (xstg m c))
    (iM.view.readAt (Elt F) (cellsR k hk 0 (by decide)).toLoadRect (istg m c)) (iM.view.readAt (Elt F) (cellsR k hk 1 (by decide)).toLoadRect (istg m c))
    (gM.view.readAt (Elt F) (cellsR k hk 0 (by decide)).toLoadRect (gbuf m c)) (gM.view.readAt (Elt F) (cellsR k hk 1 (by decide)).toLoadRect (gbuf m c))
    (wM.view.readAt (Elt F) (weightsR d 0 (by decide)).toLoadRect (wbuf m c)) (wM.view.readAt (Elt F) (weightsR d 1 (by decide)).toLoadRect (wbuf m c))
    (wM.view.readAt (Elt F) (weightsR d 2 (by decide)).toLoadRect (wbuf m c)) (wM.view.readAt (Elt F) (weightsR d 3 (by decide)).toLoadRect (wbuf m c))

/-- The contribution from reads at rectangles written otherwise, their offsets being the chunk's. -/
theorem chunkV_eq_partV (d : Bool) (c : Dev nD) (k : ℕ) (hk : k < 8) {ox o0 o1 : Fin 2 → ℕ}
    (hx : ox = ![256 * k, 0]) (h0 : o0 = ![256 * k, 0]) (h1 : o1 = ![256 * k, 1])
    (bx : ∀ a, ox a + S256x512.size a ≤ S2048x512.size a) (b0 : ∀ a, o0 a + S256x1.size a ≤ S2048x2.size a)
    (b1 : ∀ a, o1 a + S256x1.size a ≤ S2048x2.size a) :
    chunkV (myWord c) (xM.view.readAt (Elt F) (Rect.unit (s := S2048x512) ox S256x512.size bx).toLoadRect (xstg m c))
      (iM.view.readAt (Elt F) (Rect.unit (s := S2048x2) o0 S256x1.size b0).toLoadRect (istg m c))
      (iM.view.readAt (Elt F) (Rect.unit (s := S2048x2) o1 S256x1.size b1).toLoadRect (istg m c))
      (gM.view.readAt (Elt F) (Rect.unit (s := S2048x2) o0 S256x1.size b0).toLoadRect (gbuf m c))
      (gM.view.readAt (Elt F) (Rect.unit (s := S2048x2) o1 S256x1.size b1).toLoadRect (gbuf m c))
      (wM.view.readAt (Elt F) (weightsR d 0 (by decide)).toLoadRect (wbuf m c)) (wM.view.readAt (Elt F) (weightsR d 1 (by decide)).toLoadRect (wbuf m c))
      (wM.view.readAt (Elt F) (weightsR d 2 (by decide)).toLoadRect (wbuf m c)) (wM.view.readAt (Elt F) (weightsR d 3 (by decide)).toLoadRect (wbuf m c))
      = partV m d c k hk := by
  subst hx h0 h1
  rfl

/-! ## Around the ring -/

/-- A device's contribution at its `n`-th turn. -/
def turnV (d : Bool) (n : ℕ) (c : Dev nD) : FVec F S256x512 .f32 := partV m d c (tgt d n c) (tgt_lt d n c)

/-- What arrived, as a sum to add to. -/
def addTo (a : Vec F S256x512 .bf16) (p : FVec F S256x512 .f32) : FVec F S256x512 .f32 := addf (extf .f32 a bitsLt_bf16_f32) p

/-- What device `c` passes on at turn `n`: its contribution, added to what came to it at the turn before, rounded. -/
def accV (d : Bool) : ℕ → Dev nD → Vec F S256x512 .bf16
  | 0, c => truncf .bf16 (turnV m d 0 c) bitsLt_bf16_f32
  | n + 1, c => truncf .bf16 (addTo (accV d n (origin d c)) (turnV m d (n + 1) c)) bitsLt_bf16_f32

/-- Direction `d`'s half of device `c`'s result. -/
def outV (d : Bool) (c : Dev nD) : FVec F S256x512 .f32 := addTo (accV m d 6 (origin d c)) (turnV m d 7 c)

/-- A cell of half a block. -/
def ixH (r : Fin 256) (k : Fin 512) : S256x512.Idx
  | ⟨0, _⟩ => r
  | ⟨1, _⟩ => k

/-- Device `c`'s result: the two halves side by side. -/
def outAt (c : Dev nD) : (cc0_stg4_0 : Ref sig .tc).ty.Contents (Elt F) :=
  fun i : S256x1024.Idx => if h : (i 1).val < 512 then outV m false c (ixH (i 0) ⟨(i 1).val, h⟩)
    else outV m true c (ixH (i 0) ⟨(i 1).val - 512, by have h' : (i 1).val < 1024 := (i 1).isLt; omega⟩)

end Cert.Moe

end
-- ==== Proof.Program.lean ====
/-
The kernel, as the steps it is made of.

The kernel's text is one straight line of loads, stores, transfers and waits. This module writes it as what it is: a
prologue, which computes the gates, rounds the weights, shakes hands with both neighbours and fills the first slot of
both ring buffers; seven turns, each of which starts both transfers, computes the contributions to the chunks that
are about to arrive, waits for both transfers and adds; and the two last stores. That this is the kernel's text is
`body_eq`.
-/
module

public import proofs.«01_k».proof.Proof.Values

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (F) in
/-- A device's program, returning `α`. -/
abbrev PR (α : Type) : Type 1 := Prog (TpuEff nD τ sig (Elt F) Λ₀ .tc) α

/-- A direction's ring buffer. -/
abbrev bufM (d : Bool) : RingMemref := bif d then Memref.whole cc0_scratch1 else Memref.whole cc0_scratch0

theorem bufM_whole (d : Bool) : (bufM d).IsWhole := by
  cases d <;> exact Memref.isWhole_whole _

/-- The semaphore of direction `d`'s `s`-th transfer: its sending side's (`false`) or its receiving side's (`true`). -/
def qsem (d r : Bool) (s : ℕ) (hs : s < 7) : DmaSem sig :=
  ⟨5 + (bif d then 14 else 0) + (bif r then 7 else 0) + s, by
    have h1 : (bif d then 14 else 0) ≤ 14 := by cases d <;> decide
    have h2 : (bif r then 7 else 0) ≤ 7 := by cases r <;> decide
    show _ < 33
    omega⟩

/-- A slot of a ring buffer is made of whole words. -/
theorem slot_words (M : RingMemref) (hM : M.IsWhole) (k : ℕ) (hk : k < 8) : (slotM M k hk).view.WordExact := by
  refine (hM.wordExact_slice rfl _ ?_).reshape _ _
  match k, hk with
  | 0, _ => exact wordsbf16_S8x256x512_S1x256x512_0_0_0
  | 1, _ => exact wordsbf16_S8x256x512_S1x256x512_1_0_0
  | 2, _ => exact wordsbf16_S8x256x512_S1x256x512_2_0_0
  | 3, _ => exact wordsbf16_S8x256x512_S1x256x512_3_0_0
  | 4, _ => exact wordsbf16_S8x256x512_S1x256x512_4_0_0
  | 5, _ => exact wordsbf16_S8x256x512_S1x256x512_5_0_0
  | 6, _ => exact wordsbf16_S8x256x512_S1x256x512_6_0_0
  | 7, _ => exact wordsbf16_S8x256x512_S1x256x512_7_0_0
  | _ + 8, h => exact absurd h (by omega)

/-- And of whole packed rows, for the slots the kernel stores into. -/
theorem slot_stores (M : RingMemref) (hM : M.IsWhole) (k : ℕ) (hk : k < 7) :
    (M.access (slotR k (Nat.lt_succ_of_lt hk))).Stores Finset.univ := by
  refine View.stores_vmem h_S1x256x512 (hM.storeExact_slice rfl _ ?_) (fun _ => rfl)
  match k, hk with
  | 0, _ => exact packedbf16_S8x256x512_S1x256x512_0_0_0
  | 1, _ => exact packedbf16_S8x256x512_S1x256x512_1_0_0
  | 2, _ => exact packedbf16_S8x256x512_S1x256x512_2_0_0
  | 3, _ => exact packedbf16_S8x256x512_S1x256x512_3_0_0
  | 4, _ => exact packedbf16_S8x256x512_S1x256x512_4_0_0
  | 5, _ => exact packedbf16_S8x256x512_S1x256x512_5_0_0
  | 6, _ => exact packedbf16_S8x256x512_S1x256x512_6_0_0
  | _ + 7, h => exact absurd h (by omega)

/-- Start direction `d`'s `s`-th transfer, to device `n`: from slot `s` here to slot `s + 1` there. -/
def sendP (d : Bool) (s : ℕ) (hs : s < 7) (n : Dev nD) : PR F PUnit :=
  Prog.lift (.enqueueDma (slotM (bufM d) s (Nat.lt_succ_of_lt hs))
    (.remote (Dev.tc n) (slotM (bufM d) (s + 1) (Nat.succ_lt_succ hs)) (.dma (qsem d false s hs)) (by cases d <;> rfl)) (.dma (qsem d true s hs))
    (slot_words _ (bufM_whole d) _ _) (slot_words _ (bufM_whole d) _ _) ⟨⟨rfl, Or.inl rfl⟩, trivial⟩)

/-- Wait for its `s`-th transfer to have left. -/
def waitSendP (d : Bool) (s : ℕ) (hs : s < 7) : PR F PUnit :=
  Prog.lift (.waitDma2 (qsem d false s hs) (slotM (bufM d) (s + 1) (Nat.succ_lt_succ hs)) (slotM (bufM d) s (Nat.lt_succ_of_lt hs))
    (slot_words _ (bufM_whole d) _ _) (slot_words _ (bufM_whole d) _ _))

/-- Wait for the `s`-th transfer to this device to have arrived. -/
def waitRecvP (d : Bool) (s : ℕ) (hs : s < 7) : PR F PUnit :=
  Prog.lift (.waitDma2 (qsem d true s hs) (slotM (bufM d) s (Nat.lt_succ_of_lt hs)) (slotM (bufM d) (s + 1) (Nat.succ_lt_succ hs))
    (slot_words _ (bufM_whole d) _ _) (slot_words _ (bufM_whole d) _ _))

/-- Compute the device's contribution to the chunk the offsets name. -/
def partP (c : Dev nD) (d : Bool) {ox o0 o1 : Fin 2 → ℕ} (bx : ∀ a, ox a + S256x512.size a ≤ S2048x512.size a)
    (b0 : ∀ a, o0 a + S256x1.size a ≤ S2048x2.size a) (b1 : ∀ a, o1 a + S256x1.size a ≤ S2048x2.size a) : PR F (FVec F S256x512 .f32) := do
  let x : Vec F S256x512 .f32 ← Prog.lift (.load xM (Rect.unit (s := S2048x512) ox S256x512.size bx).toLoadRect (View.loadsAt_vmem h_S256x512))
  let i0 : Vec F S256x1 .i32 ← Prog.lift (.load iM (Rect.unit (s := S2048x2) o0 S256x1.size b0).toLoadRect (View.loadsAt_vmem h_S256x1))
  let i1 : Vec F S256x1 .i32 ← Prog.lift (.load iM (Rect.unit (s := S2048x2) o1 S256x1.size b1).toLoadRect (View.loadsAt_vmem h_S256x1))
  let w0 : Vec F S256x1 .f32 ← Prog.lift (.load gM (Rect.unit (s := S2048x2) o0 S256x1.size b0).toLoadRect (View.loadsAt_vmem h_S256x1))
  let w1 : Vec F S256x1 .f32 ← Prog.lift (.load gM (Rect.unit (s := S2048x2) o1 S256x1.size b1).toLoadRect (View.loadsAt_vmem h_S256x1))
  let u0 : Vec F S1x512x512 .bf16 ← Prog.lift (.load wM (weightsR d 0 (by decide)).toLoadRect (View.loadsAt_vmem h_S1x512x512))
  let u1 : Vec F S1x512x512 .bf16 ← Prog.lift (.load wM (weightsR d 1 (by decide)).toLoadRect (View.loadsAt_vmem h_S1x512x512))
  let u2 : Vec F S1x512x512 .bf16 ← Prog.lift (.load wM (weightsR d 2 (by decide)).toLoadRect (View.loadsAt_vmem h_S1x512x512))
  let u3 : Vec F S1x512x512 .bf16 ← Prog.lift (.load wM (weightsR d 3 (by decide)).toLoadRect (View.loadsAt_vmem h_S1x512x512))
  pure (chunkV (myWord c) x i0 i1 w0 w1 u0 u1 u2 u3)

/-- Round a contribution and store it in slot 0. -/
def firstP (d : Bool) (p : FVec F S256x512 .f32) : PR F PUnit := do
  let _ ← Prog.lift (.load (bufM d) (slotR 0 (by decide)).toLoadRect (View.loadsAt_vmem h_S1x256x512))
  Prog.lift (.store (bufM d) (slotR 0 (by decide)) (shapeCast S1x256x512 (truncf .bf16 p bitsLt_bf16_f32) shapeCasts_S256x512_S1x256x512)
    Finset.univ (slot_stores _ (bufM_whole d) 0 (by decide)) (.inl rfl))

/-- Add a contribution to what arrived in slot `k`, round, and store it there. -/
def addP (d : Bool) (k : ℕ) (hk : k < 7) (p : FVec F S256x512 .f32) : PR F PUnit := do
  let a ← Prog.lift (.load (bufM d) (slotR k (Nat.lt_succ_of_lt hk)).toLoadRect (View.loadsAt_vmem h_S1x256x512))
  let _ ← Prog.lift (.load (bufM d) (slotR k (Nat.lt_succ_of_lt hk)).toLoadRect (View.loadsAt_vmem h_S1x256x512))
  Prog.lift (.store (bufM d) (slotR k (Nat.lt_succ_of_lt hk))
    (shapeCast S1x256x512 (truncf .bf16 (addTo (shapeCast S256x512 a shapeCasts_S1x256x512_S256x512) p) bitsLt_bf16_f32) shapeCasts_S256x512_S1x256x512)
    Finset.univ (slot_stores _ (bufM_whole d) k hk) (.inl rfl))

theorem half_inb (d : Bool) : ∀ a, (![0, colOff d] : Fin 2 → ℕ) a + S256x512.size a ≤ S256x1024.size a := by
  intro a
  fin_cases a
  · exact Nat.le_refl _
  · cases d
    · show 0 + 512 ≤ 1024; omega
    · show 512 + 512 ≤ 1024; omega

/-- A direction's columns of the result. -/
abbrev halfR (d : Bool) : Rect S256x1024 := Rect.unit (s := S256x1024) ![0, colOff d] S256x512.size (half_inb d)

/-- Add a contribution to what arrived last and store it in the result. -/
def outP (d : Bool) (p : FVec F S256x512 .f32) : PR F PUnit := do
  let a ← Prog.lift (.load (bufM d) (slotR 7 (by decide)).toLoadRect (View.loadsAt_vmem h_S1x256x512))
  let _ ← Prog.lift (.load oM (halfR d).toLoadRect (View.loadsAt_vmem h_S256x512))
  Prog.lift (.store oM (halfR d) (addTo (shapeCast S256x512 a shapeCasts_S1x256x512_S256x512) p)
    Finset.univ (View.stores_vmem_bits_univ h_S256x512 rfl) (.inl rfl))

/-- Compute the gates and round the weights. -/
def gatesP : PR F PUnit := do
  let x : Vec F S2048x512 .f32 ← Prog.lift (.load xM (Rect.unit (s := S2048x512) ![0, 0] S2048x512.size inb_S2048x512_S2048x512_0_0).toLoadRect (View.loadsAt_vmem h_S2048x512))
  let r : Vec F S512x32 .f32 ← Prog.lift (.load rM (Rect.unit (s := S512x32) ![0, 0] S512x32.size inb_S512x32_S512x32_0_0).toLoadRect (View.loadsAt_vmem h_S512x32))
  let i0 : Vec F S2048x1 .i32 ← Prog.lift (.load iM (colR 0 (by decide)).toLoadRect (View.loadsAt_vmem h_S2048x1))
  let i1 : Vec F S2048x1 .i32 ← Prog.lift (.load iM (colR 1 (by decide)).toLoadRect (View.loadsAt_vmem h_S2048x1))
  let _ ← Prog.lift (.load gM (colR 0 (by decide)).toLoadRect (View.loadsAt_vmem h_S2048x1))
  Prog.lift (.store gM (colR 0 (by decide)) (k0_pay8 (k0_pay4 x r i0) (k0_pay5 x r i1)) Finset.univ (View.stores_vmem_bits_univ h_S2048x1 rfl) (.inl rfl))
  let _ ← Prog.lift (.load gM (colR 1 (by decide)).toLoadRect (View.loadsAt_vmem h_S2048x1))
  Prog.lift (.store gM (colR 1 (by decide)) (k0_pay9 (k0_pay4 x r i0) (k0_pay5 x r i1)) Finset.univ (View.stores_vmem_bits_univ h_S2048x1 rfl) (.inl rfl))
  let e : Vec F S4x512x1024 .f32 ← Prog.lift (.load eM (Rect.unit (s := S4x512x1024) ![0, 0, 0] S4x512x1024.size inb_S4x512x1024_S4x512x1024_0_0_0).toLoadRect (View.loadsAt_vmem h_S4x512x1024))
  let _ ← Prog.lift (.load wM (Rect.unit (s := S4x512x1024) ![0, 0, 0] S4x512x1024.size inb_S4x512x1024_S4x512x1024_0_0_0).toLoadRect (View.loadsAt_vmem h_S4x512x1024))
  Prog.lift (.store wM (Rect.unit (s := S4x512x1024) ![0, 0, 0] S4x512x1024.size inb_S4x512x1024_S4x512x1024_0_0_0) (k0_pay10 e) Finset.univ
    (View.stores_vmem h_S4x512x1024 ((Memref.isWhole_whole cc0_scratch3).storeExact_slice rfl _ packedbf16_S4x512x1024_S4x512x1024_0_0_0) (fun _ => rfl)) (.inl rfl))

/-- The runtime's barrier semaphore. -/
abbrev barS : Sem sig := (SemArray.scalar (sig.barrier 0 rfl) : Sems sig S_).sem

/-- Tell both neighbours that this device is ready, and wait until both are. -/
def shakeP (n1 n2 : Dev nD) : PR F PUnit := do
  semSignalWord n1 barS 1#32
  semSignalWord n2 barS 1#32
  semWaitWord barS 2#32

/-- The first contributions, into both buffers' slot 0. -/
def beginP (c : Dev nD) : PR F PUnit := do
  let p ← partP c false (k0_off1_inb c) (k0_off2_inb c) (k0_off3_inb c)
  firstP false p
  let p ← partP c true (k0_off4_inb c) (k0_off5_inb c) (k0_off6_inb c)
  firstP true p

/-- A turn up to both transfers' arrival; the contributions to what arrives. -/
def turnP (c : Dev nD) (s : Fin 7) (n1 n2 : Dev nD) : PR F (FVec F S256x512 .f32 × FVec F S256x512 .f32) := do
  sendP false s.val s.isLt n1
  sendP true s.val s.isLt n2
  let p ← partP c false (k0_off7_inb c s) (k0_off8_inb c s) (k0_off9_inb c s)
  let q ← partP c true (k0_off10_inb c s) (k0_off11_inb c s) (k0_off12_inb c s)
  waitSendP false s.val s.isLt
  waitRecvP false s.val s.isLt
  waitSendP true s.val s.isLt
  waitRecvP true s.val s.isLt
  pure (p, q)

/-- A turn but the last. -/
def stepP (c : Dev nD) (s : Fin 6) (n1 n2 : Dev nD) : PR F PUnit := do
  let (p, q) ← turnP c s.castSucc n1 n2
  addP false (s.val + 1) (Nat.succ_lt_succ s.isLt) p
  addP true (s.val + 1) (Nat.succ_lt_succ s.isLt) q

/-- The last turn. -/
def lastP (c : Dev nD) (n1 n2 : Dev nD) : PR F PUnit := do
  let (p, q) ← turnP c 6 n1 n2
  outP false p
  outP true q

/-- The kernel. -/
def bodyP : PR F PUnit := do
  let c ← Prog.lift .deviceId
  gatesP
  shakeP ⟨k0_dev1 c, k0_dev1_lt c⟩ ⟨k0_dev2 c, k0_dev2_lt c⟩
  beginP c
  stepP c 0 ⟨k0_dev3 c, k0_dev3_lt c⟩ ⟨k0_dev4 c, k0_dev4_lt c⟩
  stepP c 1 ⟨k0_dev5 c, k0_dev5_lt c⟩ ⟨k0_dev6 c, k0_dev6_lt c⟩
  stepP c 2 ⟨k0_dev7 c, k0_dev7_lt c⟩ ⟨k0_dev8 c, k0_dev8_lt c⟩
  stepP c 3 ⟨k0_dev9 c, k0_dev9_lt c⟩ ⟨k0_dev10 c, k0_dev10_lt c⟩
  stepP c 4 ⟨k0_dev11 c, k0_dev11_lt c⟩ ⟨k0_dev12 c, k0_dev12_lt c⟩
  stepP c 5 ⟨k0_dev13 c, k0_dev13_lt c⟩ ⟨k0_dev14 c, k0_dev14_lt c⟩
  lastP c ⟨k0_dev15 c, k0_dev15_lt c⟩ ⟨k0_dev16 c, k0_dev16_lt c⟩

set_option maxRecDepth 65536 in
set_option maxHeartbeats 4000000 in
/-- The kernel's text is `bodyP`. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 = bodyP (F := F) := by
  rw [cc0_body_eq_skeleton]
  rfl

end Cert.Moe

end
-- ==== Proof.Protocol.lean ====
/-
The ring's protocol.

Every device has one barrier cell and, for each direction and each of the seven turns, a cell its own transfer counts
on when it has left (the send cell) and one the transfer to it counts on when it has arrived (the receive cell). Each
cell has one round.

* A barrier cell has two duties, named by the directions. Duty `d` of device `c`'s is paid by the device that `c` sends
  to in direction `d`, with the seven slots of its ring buffer that `c`'s transfers will fill.
* A receive cell has one duty, paid by the arriving transfer, with the slot holding what the sender passed on.
* A send cell has one duty, paid by the leaving transfer, with the slot it read.

A device owes one unit to each neighbour's barrier cell and one slot's bytes to each receive cell its transfers arrive
at. It waits for what it is owed in an order that cannot close a circle: barrier cells lie below receive cells, and the
receive cells of a turn below those of the next.
-/
module

public import proofs.«01_k».proof.Proof.Program

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- A transfer's end: its direction, whether it is the receiving end, its turn. -/
abbrev J : Type := Bool × Bool × Fin 7

/-- The semaphore of a transfer's end. -/
abbrev jsem (j : J) : DmaSem sig := qsem j.1 j.2.1 j.2.2.val j.2.2.isLt

/-- The transfer's end a semaphore belongs to, if it belongs to one. -/
def decJ (q : DmaSem sig) : Option J :=
  if 5 ≤ q.val then some (decide (19 ≤ q.val), decide (7 ≤ (q.val - 5) % 14), ⟨(q.val - 5) % 7, Nat.mod_lt _ (by decide)⟩) else none

theorem decJ_jsem (j : J) : decJ (jsem j) = some j := by revert j; decide

theorem jsem_injective : Function.Injective jsem := fun a b h => by
  have h' := congrArg decJ h
  rw [decJ_jsem, decJ_jsem] at h'
  exact Option.some.inj h'

abbrev barCell (c : Dev nD) : GSem nD τ sig := ((c : Thread nD τ), .reg barS)
abbrev dcell (c : Dev nD) (j : J) : GSem nD τ sig := ((c : Thread nD τ), .dma (jsem j))

/-- The bytes of a slot. -/
abbrev N : ℕ := (slotM (bufM false) 0 (by decide)).view.dmaCredit
theorem N_pos : 0 < N := View.dmaCredit_pos _ (by decide)
theorem slot_credit (d : Bool) (k : ℕ) (hk : k < 8) : (slotM (bufM d) k hk).view.dmaCredit = N := by cases d <;> rfl

/-! ## The schedule -/

/-- What duty `d` hands device `c`: the slots its transfers in that direction will fill. -/
def barPay (c : Dev nD) (d : Bool) : sProp 𝕄 :=
  bigSep Finset.univ fun s : Fin 7 => slotAny (F := F) (bufM d) (dest d c) (s.val + 1) (Nat.succ_lt_succ s.isLt)

/-- What a transfer's end hands device `c`. -/
def xferPay (j : J) (c : Dev nD) : sProp 𝕄 :=
  match j with
  | (d, true, s) => slotOwn (bufM d) c (s.val + 1) (Nat.succ_lt_succ s.isLt) (accV m d s.val (origin d c))
  | (d, false, s) => slotOwn (bufM d) c s.val (Nat.lt_succ_of_lt s.isLt) (accV m d s.val c)

omit [FloatOps F] in
instance barPay_storable (c : Dev nD) (d : Bool) : BI.Storable (upEmb : UEmb _ 𝕄) (barPay (F := F) c d) := by
  unfold barPay; infer_instance

instance xferPay_storable (j : J) (c : Dev nD) : BI.Storable (upEmb : UEmb _ 𝕄) (xferPay m j c) := by
  obtain ⟨d, r, s⟩ := j
  cases r <;> (unfold xferPay; infer_instance)

/-- What a semaphore's duty hands device `c`. -/
def payOf (c : Dev nD) (sm : SemLoc sig) (d : Bool) : sProp 𝕄 :=
  match sm with
  | .reg _ => barPay c d
  | .dma q => match decJ q with
    | some j => xferPay m j c
    | none => iprop(emp)

instance payOf_storable (c : Dev nD) (sm : SemLoc sig) (d : Bool) : BI.Storable (upEmb : UEmb _ 𝕄) (payOf m c sm d) := by
  unfold payOf
  split
  · infer_instance
  · split <;> infer_instance

/-- A semaphore's duties. -/
def dutiesOf (sm : SemLoc sig) : Finset Bool :=
  match sm with
  | .reg s => if s = barS then Finset.univ else ∅
  | .dma q => if (decJ q).isSome then {false} else ∅

/-- The schedule: one round. -/
def ringRd : Rounds.Schedule (GSem nD τ sig) Bool 𝕄 where
  duties g r := if r = 0 ∧ g.1.2 = .tc then dutiesOf g.2 else ∅
  unitless _ := False
  amount g _ _ := match g.2 with
    | .reg _ => 1
    | .dma _ => N
  payload g _ d := payOf m g.1.1 g.2 d
  amount_pos g _ _ _ := by
    split
    · exact Nat.one_pos
    · exact N_pos

instance ringRd_payload_storable (g : GSem nD τ sig) (r : ℕ) (d : Bool) :
    BI.Storable (upEmb : UEmb _ 𝕄) ((ringRd m).payload g r d) := payOf_storable m g.1.1 g.2 d

theorem duties_bar (c : Dev nD) : (ringRd m).duties (barCell c) 0 = Finset.univ := by
  dsimp only [ringRd]
  rw [if_pos ⟨rfl, rfl⟩]
  unfold dutiesOf
  exact if_pos rfl

theorem duties_dma (c : Dev nD) (j : J) : (ringRd m).duties (dcell c j) 0 = {false} := by
  dsimp only [ringRd]
  rw [if_pos ⟨rfl, rfl⟩]
  unfold dutiesOf
  simp only [decJ_jsem, Option.isSome_some, if_true]

theorem duties_later (g : GSem nD τ sig) : ∀ r, 1 ≤ r → (ringRd m).duties g r = ∅ :=
  fun r hr => if_neg fun h => by omega

theorem amount_bar (c : Dev nD) (d : Bool) : (ringRd m).amount (barCell c) 0 d = 1 := rfl
theorem amount_dma (c : Dev nD) (j : J) (d : Bool) : (ringRd m).amount (dcell c j) 0 d = N := rfl

theorem expect_bar (c : Dev nD) : (ringRd m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (c : Dev nD) (j : J) : (ringRd m).expect (dcell c j) 0 = N := by
  unfold Schedule.expect Schedule.amountOf; rw [duties_dma, Finset.sum_singleton, amount_dma]

theorem payload_bar (c : Dev nD) (d : Bool) : (ringRd m).payload (barCell c) 0 d = barPay c d := rfl
theorem payload_dma (c : Dev nD) (j : J) (d : Bool) : (ringRd m).payload (dcell c j) 0 d = xferPay m j c := by
  show (match decJ (jsem j) with | some j => xferPay m j c | none => iprop(emp)) = _
  rw [decJ_jsem]

theorem mem_duties_dma (c : Dev nD) (j : J) : false ∈ (ringRd m).duties (dcell c j) 0 := by
  rw [duties_dma]
  exact Finset.mem_singleton_self _
theorem xferPay_send (c : Dev nD) (d : Bool) (s : Fin 7) :
    xferPay m (d, false, s) c = slotOwn (bufM d) c s.val (Nat.lt_succ_of_lt s.isLt) (accV m d s.val c) := rfl
theorem xferPay_recv (c : Dev nD) (d : Bool) (s : Fin 7) :
    xferPay m (d, true, s) c = slotOwn (bufM d) c (s.val + 1) (Nat.succ_lt_succ s.isLt) (accV m d s.val (origin d c)) := rfl

/-- All a barrier cell's round hands over: both directions' slots. -/
theorem rest_bar (c : Dev nD) : bigSep ((ringRd m).duties (barCell c) 0 \ ∅) (fun d => (ringRd m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
/-- All a transfer's end's round hands over. -/
theorem rest_dma (c : Dev nD) (j : J) : bigSep ((ringRd m).duties (dcell c j) 0 \ ∅) (fun d => (ringRd m).payload (dcell c j) 0 d) = xferPay m j c := by
  rw [Finset.sdiff_empty, duties_dma, bigSep_singleton, payload_dma]

/-! ## What a device owes -/

/-- The bytes of turn `t`'s transfer in direction `d`, owed to the receive cell they arrive at. -/
def owedXfer (c : Dev nD) (d : Bool) (t : Fin 7) : CellTallies nD τ sig Unit := tallyAt (dcell (dest d c) (d, true, t)) () N

/-- The bytes of the last `n` turns' transfers. -/
def owedLast (c : Dev nD) : ℕ → CellTallies nD τ sig Unit
  | 0 => 0
  | n + 1 => (owedLast c n + owedXfer c true ⟨6 - n, by omega⟩) + owedXfer c false ⟨6 - n, by omega⟩

/-- The bytes of the transfers from turn `s` on. -/
def owedFrom (c : Dev nD) (s : ℕ) : CellTallies nD τ sig Unit := owedLast c (7 - s)

theorem owedFrom_step (c : Dev nD) (s : Fin 7) :
    owedFrom c s.val = (owedFrom c (s.val + 1) + owedXfer c true s) + owedXfer c false s := by
  match s with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨_ + 7, h⟩ => exact absurd h (by omega)

theorem owedFrom_end (c : Dev nD) : owedFrom c 7 = 0 := rfl

/-- All a device owes at launch, in the order it pays: its left neighbour's barrier cell, its right neighbour's, the transfers. -/
def O₁ (c : Dev nD) : CellTallies nD τ sig Unit := owedFrom c 0 + tallyAt (barCell (nxt c)) () 1
def O₀ (c : Dev nD) : CellTallies nD τ sig Unit := O₁ c + tallyAt (barCell (prv c)) () 1

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- Where a sum owes, one of its summands does. -/
theorem add_pos_cases {A B : CellTallies nD τ sig Unit} {g : GSem nD τ sig} {u : Unit} (h : 0 < (A + B) g u) : 0 < A g u ∨ 0 < B g u := by
  rw [Pi.add_apply, Finsupp.add_apply] at h
  omega

theorem owedLast_pos (c : Dev nD) (n : ℕ) (hn : n ≤ 7) {g : GSem nD τ sig} {u : Unit} (h : 0 < owedLast c n g u) :
    ∃ d : Bool, ∃ t : Fin 7, 7 ≤ t.val + n ∧ g = dcell (dest d c) (d, true, t) := by
  induction n with
  | zero => exact absurd h (Nat.lt_irrefl 0)
  | succ n ih =>
    rcases add_pos_cases h with h | h
    · rcases add_pos_cases h with h | h
      · obtain ⟨d, t, ht, hg⟩ := ih (by omega) h
        exact ⟨d, t, by omega, hg⟩
      · exact ⟨true, ⟨6 - n, by omega⟩, by show 7 ≤ 6 - n + (n + 1); omega, tallyAt_pos h⟩
    · exact ⟨false, ⟨6 - n, by omega⟩, by show 7 ≤ 6 - n + (n + 1); omega, tallyAt_pos h⟩

theorem owedFrom_pos (c : Dev nD) (s : ℕ) {g : GSem nD τ sig} {u : Unit} (h : 0 < owedFrom c s g u) :
    ∃ d : Bool, ∃ t : Fin 7, s ≤ t.val ∧ g = dcell (dest d c) (d, true, t) := by
  obtain ⟨d, t, ht, hg⟩ := owedLast_pos c (7 - s) (by omega) h
  exact ⟨d, t, by omega, hg⟩

/-! ## The order of the waits -/

def L (g : GSem nD τ sig) : Finset Unit := if g.1.2 = .tc then {()} else ∅

/-- A semaphore's place in the order. -/
def lvOf (sm : SemLoc sig) : ℕ :=
  match sm with
  | .reg _ => 1
  | .dma q => match decJ q with
    | some (_, true, s) => 2 + s.val
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (d : Bool) (s : Fin 7) : lv (dcell c (d, true, s)) () = 2 + s.val := by
  show lvOf (.dma (jsem (d, true, s))) = _
  unfold lvOf
  simp only [decJ_jsem]
theorem lv_send (c : Dev nD) (d : Bool) (s : Fin 7) : lv (dcell c (d, false, s)) () = 0 := by
  show lvOf (.dma (jsem (d, false, s))) = _
  unfold lvOf
  simp only [decJ_jsem]

omit [FloatOps F] in
/-- A device may wait on a semaphore below everything it owes. -/
theorem mayWait_of (c : Dev nD) (sm : SemLoc sig) (n : ℕ) (O : CellTallies nD τ sig Unit) (hn : lvOf sm ≤ n)
    (hO : ∀ g u, 0 < O g u → g.1.2 = .tc ∧ n < lvOf g.2) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

omit [FloatOps F] in
/-- And so on a semaphore below the receive cells from turn `s` on, when it owes the transfers from then on. -/
theorem mayWait_from (c : Dev nD) (sm : SemLoc sig) (s : ℕ) (h : lvOf sm < 2 + s) :
    (levAts L lv : sProp 𝕄) ⊢ MayWait (c : Thread nD τ) sm () (owedFrom c s) :=
  mayWait_of c sm (1 + s) (owedFrom c s) (by omega) fun g u hg => by
    obtain ⟨d, t, ht, rfl⟩ := owedFrom_pos c s hg
    have := lv_recv (dest d c) d t
    refine ⟨rfl, ?_⟩
    change 1 + s < lv (dcell (dest d c) (d, true, t)) ()
    omega

omit [FloatOps F] in
/-- The staging transfers' semaphores are below everything. -/
theorem mayWait_stage (c : Dev nD) (q : DmaSem sig) (hq : lvOf (.dma q) = 0) (O : CellTallies nD τ sig Unit) (hO : O = O₀ c ∨ O = 0) :
    (levAts L lv : sProp 𝕄) ⊢ MayWait (c : Thread nD τ) (.dma q) () O := by
  rcases hO with rfl | rfl
  · refine mayWait_of c _ 0 _ hq.le fun g u hg => ?_
    rcases add_pos_cases hg with h | h
    · rcases add_pos_cases h with h | h
      · obtain ⟨d, t, ht, rfl⟩ := owedFrom_pos c 0 h
        have := lv_recv (dest d c) d t
        refine ⟨rfl, ?_⟩
        change 0 < lv (dcell (dest d c) (d, true, t)) ()
        omega
      · rw [tallyAt_pos h]; exact ⟨rfl, Nat.one_pos⟩
    · rw [tallyAt_pos h]; exact ⟨rfl, Nat.one_pos⟩
  · rw [MayWait_zero]; iintro -; iempintro

/-! ## The records, the tokens, the positions -/

/-- A device's cells: its barrier cell and its transfers' ends. -/
abbrev I : Type := Unit ⊕ J
abbrev csem (i : I) : SemLoc sig := match i with
  | .inl _ => .reg barS
  | .inr j => .dma (jsem j)
abbrev kcell (ck : Dev nD × I) : GSem nD τ sig := ((ck.1 : Thread nD τ), csem ck.2)

/-- What everyone may know: every cell keeps to the schedule, and every cell has reached its round. -/
def records (K : Dev nD × I → ℕ) : sProp 𝕄 :=
  iprop((bigSep Finset.univ fun ck : Dev nD × I => cellInv ER (ringRd m) (K ck) (kcell ck))
    ∗ bigSep Finset.univ fun ck : Dev nD × I => reached ER (kcell ck) 0)

instance records_persistent (K : Dev nD × I → ℕ) : BI.Persistent (records m K) := by unfold records; infer_instance

theorem inv_at (K : Dev nD × I → ℕ) (ck : Dev nD × I) : records m K ⊢ cellInv ER (ringRd m) (K ck) (kcell ck) := by
  unfold records
  iintro ⟨H, -⟩
  iapply (show (bigSep Finset.univ fun ck : Dev nD × I => (cellInv ER (ringRd m) (K ck) (kcell ck) : sProp 𝕄)) ⊢ cellInv ER (ringRd m) (K ck) (kcell ck)
    from bigSep_elim (Finset.mem_univ ck))
  iexact H
theorem reached_at (K : Dev nD × I → ℕ) (ck : Dev nD × I) : records m K ⊢ reached ER (kcell ck) 0 := by
  unfold records
  iintro ⟨-, H⟩
  iapply (show (bigSep Finset.univ fun ck : Dev nD × I => (reached ER (kcell ck) 0 : sProp 𝕄)) ⊢ reached ER (kcell ck) 0
    from bigSep_elim (Finset.mem_univ ck))
  iexact H

/-- What device `c` needs for its turn-`s` transfers in direction `d`: to pay the send cell's duty and the receive cell's,
    to wait on its own send cell, and to wait on its own receive cell for the bytes it is owed. -/
def dirRes (c : Dev nD) (d : Bool) (s : Fin 7) : sProp 𝕄 :=
  iprop(dutyTok ER (dcell c (d, false, s)) 0 false ∗ dutyTok ER (dcell (dest d c) (d, true, s)) 0 false
    ∗ atPos ER (dcell c (d, false, s)) 0 ∅ 0 ∗ atPos ER (dcell c (d, true, s)) 0 ∅ 0
    ∗ cred (tallyAt (dcell c (d, true, s)) () N))

/-- What is left of it once both have come in: both cells closed. -/
def dirDone (c : Dev nD) (d : Bool) (s : Fin 7) : sProp 𝕄 :=
  iprop(semVal (dcell c (d, false, s)) 0 ∗ semVal (dcell c (d, true, s)) 0)

/-- A device owes `O`, whatever it has waited for so far. -/
def owesE (c : Dev nD) (O : CellTallies nD τ sig Unit) : sProp 𝕄 := iprop(∃ W : Waits sig Unit, owes (c : Thread nD τ) O W)

end Cert.Moe

end
-- ==== Proof.Steps.lean ====
/-
The kernel's steps, one rule each.

For every small program of `Program` this module says what it needs, what it leaves, and what it returns, for the device
`c`, whatever comes after it.
-/
module

public import proofs.«01_k».proof.Proof.Protocol
public import Idealize.ShloMosaic.Lib.Pipeline.Value

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c`'s program `p` runs to `Q`. -/
abbrev Wp (c : Dev nD) {α : Type} (p : PR F α) (Q : α → sProp 𝕄) : sProp 𝕄 :=
  wp frame (wpE (defs₀ (F := F)) 𝒱₀ (c : Thread nD τ) none) Set.univ p Q

variable (K : Dev nD × I → ℕ) (c : Dev nD)

/-! ## The transfers -/

/-- Starting a transfer takes the slot it reads, the slot it fills and the two duties it pays, and pays what is owed to
    the receive cell. -/
theorem wp_sendP (d : Bool) (s : Fin 7) (n : Dev nD) (hn : n = dest d c) (O : CellTallies nD τ sig Unit) {α : Type} {Q : α → sProp 𝕄} {k : PUnit → PR F α} :
    iprop(records m K ∗ slotOwn (bufM d) c s.val (Nat.lt_succ_of_lt s.isLt) (accV m d s.val c)
        ∗ slotAny (F := F) (bufM d) (dest d c) (s.val + 1) (Nat.succ_lt_succ s.isLt)
        ∗ owesE (F := F) c (O + owedXfer c d s)
        ∗ dutyTok ER (dcell c (d, false, s)) 0 false ∗ dutyTok ER (dcell (dest d c) (d, true, s)) 0 false)
      ⊢ iprop(((cred (tallyAt (dcell c (d, false, s)) () N) ∗ owesE (F := F) c O) -∗ Wp c (k ⟨⟩) Q)
          -∗ Wp c ((sendP d s.val s.isLt n).bind k) Q) := by
  subst hn
  unfold sendP slotAny slotOwn owns owesE
  simp only [Prog.lift, Prog.bind_op, Prog.bind_ret]
  iintro ⟨#HR, ⟨%fs, %hfs, Hs⟩, ⟨%v, %fd, %hfd, Hd⟩, ⟨%W, HO⟩, HtS, HtV⟩ Hk
  iapply (Rounds.wp_send_pointsTo 𝒱₀ ER (ringRd m) (c : Thread nD τ) none (c' := (dest d c : Thread nD τ))
    (src := slotM (bufM d) s.val (Nat.lt_succ_of_lt s.isLt)) (dst := slotM (bufM d) (s.val + 1) (Nat.succ_lt_succ s.isLt))
    (sS := .dma (jsem (d, false, s))) (sem := .dma (jsem (d, true, s))) (κ₁ := K (c, .inr (d, false, s))) (κ₂ := K (dest d c, .inr (d, true, s)))
    (r₁ := 0) (r₂ := 0) (d₁ := false) (d₂ := false) (fs := fs) (fd := fd) (W := W)
    (mem_duties_dma m c (d, false, s)) (mem_duties_dma m (dest d c) (d, true, s))
    () () N (slot_credit d _ _) rfl rfl O rfl
    (by
      refine BIBase.Entails.trans ?_ (Entails.of_eq ((payload_dma m c (d, false, s) false).trans (xferPay_send m c d s)).symm)
      unfold slotOwn owns
      iintro H
      iexists fs
      isplitr
      · ipureintro; exact hfs
      · iexact H)
    (by
      refine BIBase.Entails.trans ?_ (Entails.of_eq ((payload_dma m (dest d c) (d, true, s) false).trans (xferPay_recv m (dest d c) d s)).symm)
      unfold slotOwn owns
      iintro H
      iexists _
      isplitr
      rotate_left
      · iexact H
      · ipureintro
        rw [origin_dest, ← hfs]
        funext x
        rw [View.read_write_univ])) $$ [Hs Hd HO HtS HtV]
  · isplitr; · iapply (inv_at m K (c, .inr (d, false, s))); iexact HR
    isplitr; · iapply (inv_at m K (dest d c, .inr (d, true, s))); iexact HR
    isplitl [Hs]; · iexact Hs
    isplitl [Hd]; · iexact Hd
    isplitl [HO]; · iexact HO
    isplitl [HtS]; · iexact HtS
    isplitr; · iapply (reached_at m K (c, .inr (d, false, s))); iexact HR
    isplitl [HtV]; · iexact HtV
    iapply (reached_at m K (dest d c, .inr (d, true, s))); iexact HR
  iintro ⟨Hc, HO⟩
  iapply Hk
  isplitl [Hc]; · iexact Hc
  iexists W
  iexact HO

/-- Waiting on a transfer's end for a slot's bytes hands over the slot and closes the cell. -/
theorem wp_wait_dma (j : J) (O : CellTallies nD τ sig Unit) (w : TpuEff nD τ sig (Elt F) Λ₀ .tc PUnit)
    (hw : ∀ K' : PUnit → sProp 𝕄, wpE (defs₀ (F := F)) 𝒱₀ (c : Thread nD τ) none Set.univ w K'
      = waitSpec (c : Thread nD τ) Set.univ (.dma (jsem j)) N K') {α : Type} {Q : α → sProp 𝕄} {k : PUnit → PR F α} :
    iprop(records m K ∗ MayWait (c : Thread nD τ) (.dma (jsem j)) () O ∗ cred (tallyAt (dcell c j) () N) ∗ owesE (F := F) c O ∗ atPos ER (dcell c j) 0 ∅ 0)
      ⊢ iprop(((xferPay m j c ∗ owesE (F := F) c O ∗ semVal (dcell c j) 0) -∗ Wp c (k ⟨⟩) Q)
          -∗ Wp c (.op w k) Q) := by
  unfold owesE
  iintro ⟨#HR, HM, Hc, ⟨%W, HO⟩, Hat⟩ Hk
  ihave #HI := (inv_at m K (c, .inr j)) $$ HR
  iapply (Rounds.wp_wait_rest_token 𝒱₀ ER (ringRd m) (c : Thread nD τ) none (κ := K (c, .inr j)) hw
      (Set.mem_univ _) () (O := O) (W := W) (R := 0) (m := 0) (T := ∅) (by rw [Nat.zero_add, expect_dma])) $$ [Hc HO Hat HM]
  · isplitr; · iexact HI
    isplitl [Hc]; · iexact Hc
    isplitl [HO]; · iexact HO
    isplitl [HM]; · iexact HM
    iexact Hat
  iintro ⟨HO, Hat, -, Hpay⟩
  ihave Hp := (Entails.of_eq (rest_dma m c j)) $$ Hpay
  imod (Rounds.cell_close ER (ringRd m) (Set.mem_univ (K (c, .inr j))) (fun h => h) (R := 0 + 1) (duties_later m (dcell c j))) $$ [Hat] with Hz
  · isplitr; · iexact HI
    iexact Hat
  iapply Hk
  isplitl [Hp]; · iexact Hp
  isplitl [HO]
  · iexists _; iexact HO
  iexact Hz

/-- Waiting for its own transfer to have left gives a device back the slot it read. -/
theorem wp_waitSendP (d : Bool) (s : Fin 7) (t : ℕ) {α : Type} {Q : α → sProp 𝕄} {k : PUnit → PR F α} :
    iprop(records m K ∗ levAts L lv ∗ cred (tallyAt (dcell c (d, false, s)) () N) ∗ owesE (F := F) c (owedFrom c t) ∗ atPos ER (dcell c (d, false, s)) 0 ∅ 0)
      ⊢ iprop(((slotAny (F := F) (bufM d) c s.val (Nat.lt_succ_of_lt s.isLt) ∗ owesE (F := F) c (owedFrom c t) ∗ semVal (dcell c (d, false, s)) 0) -∗ Wp c (k ⟨⟩) Q)
          -∗ Wp c ((waitSendP d s.val s.isLt).bind k) Q) := by
  unfold waitSendP
  simp only [Prog.lift, Prog.bind_op, Prog.bind_ret]
  iintro ⟨#HR, #HL, Hc, HO, Hat⟩ Hk
  iapply (wp_wait_dma m K c (d, false, s) (owedFrom c t) _ (fun K' => by
    rw [wpE_waitDma2_eq 𝒱₀ (c : Thread nD τ) none Set.univ, slot_credit d])) $$ [Hc HO Hat]
  · isplitr; · iexact HR
    isplitr
    · iapply (mayWait_from (F := F) c (.dma (jsem (d, false, s))) t (by rw [show lvOf _ = _ from lv_send c d s]; omega)); iexact HL
    isplitl [Hc]; · iexact Hc
    isplitl [HO]; · iexact HO
    iexact Hat
  iintro ⟨Hp, HO, Hz⟩
  ihave Hp := (Entails.of_eq (xferPay_send m c d s)) $$ Hp
  iapply Hk
  isplitl [Hp]
  · iapply (slotAny_intro (F := F) (bufM d) c s.val _ (accV m d s.val c)); iexact Hp
  isplitl [HO]; · iexact HO
  iexact Hz

/-- Waiting for the transfer to it gives a device the slot it filled, holding what its sender passed on. -/
theorem wp_waitRecvP (d : Bool) (s : Fin 7) {α : Type} {Q : α → sProp 𝕄} {k : PUnit → PR F α} :
    iprop(records m K ∗ levAts L lv ∗ cred (tallyAt (dcell c (d, true, s)) () N) ∗ owesE (F := F) c (owedFrom c (s.val + 1)) ∗ atPos ER (dcell c (d, true, s)) 0 ∅ 0)
      ⊢ iprop(((slotOwn (bufM d) c (s.val + 1) (Nat.succ_lt_succ s.isLt) (accV m d s.val (origin d c)) ∗ owesE (F := F) c (owedFrom c (s.val + 1))
            ∗ semVal (dcell c (d, true, s)) 0) -∗ Wp c (k ⟨⟩) Q)
          -∗ Wp c ((waitRecvP d s.val s.isLt).bind k) Q) := by
  unfold waitRecvP
  simp only [Prog.lift, Prog.bind_op, Prog.bind_ret]
  iintro ⟨#HR, #HL, Hc, HO, Hat⟩ Hk
  iapply (wp_wait_dma m K c (d, true, s) (owedFrom c (s.val + 1)) _ (fun K' => by
    rw [wpE_waitDma2_eq 𝒱₀ (c : Thread nD τ) none Set.univ, slot_credit d])) $$ [Hc HO Hat]
  · isplitr; · iexact HR
    isplitr
    · iapply (mayWait_from (F := F) c (.dma (jsem (d, true, s))) (s.val + 1) (by rw [show lvOf _ = _ from lv_recv c d s]; omega)); iexact HL
    isplitl [Hc]; · iexact Hc
    isplitl [HO]; · iexact HO
    iexact Hat
  iintro ⟨Hp, HO, Hz⟩
  ihave Hp := (Entails.of_eq (xferPay_recv m c d s)) $$ Hp
  iapply Hk
  isplitl [Hp]; · iexact Hp
  isplitl [HO]; · iexact HO
  iexact Hz

/-! ## A device's own buffers -/

/-- A whole buffer of device `c` at given contents. -/
abbrev bufAt (c : Dev nD) (b : Ref sig .tc) (f : b.ty.Contents (Elt F)) : sProp 𝕄 := ((c : Thread nD τ).loc b) ↦{fullShare} f

/-- What the contributions are computed from, once the gates are. -/
def locals : sProp 𝕄 :=
  iprop(bufAt c cc0_stg0_0 (xstg m c) ∗ bufAt c cc0_stg2_0 (istg m c) ∗ bufAt c cc0_scratch2 (gbuf m c) ∗ bufAt c cc0_scratch3 (wbuf m c))

/-- Computing a contribution changes nothing. -/
theorem wp_partP (d : Bool) (n : ℕ) (hn : n < 8) {ox o0 o1 : Fin 2 → ℕ} (hx : ox = ![256 * n, 0]) (h0 : o0 = ![256 * n, 0]) (h1 : o1 = ![256 * n, 1])
    (bx : ∀ a, ox a + S256x512.size a ≤ S2048x512.size a) (b0 : ∀ a, o0 a + S256x1.size a ≤ S2048x2.size a)
    (b1 : ∀ a, o1 a + S256x1.size a ≤ S2048x2.size a) {α : Type} {Q : α → sProp 𝕄} {k : FVec F S256x512 .f32 → PR F α} :
    locals m c ⊢ iprop((locals m c -∗ Wp c (k (partV m d c n hn)) Q) -∗ Wp c ((partP c d bx b0 b1).bind k) Q) := by
  rw [← chunkV_eq_partV m d c n hn hx h0 h1 bx b0 b1]
  unfold partP locals
  simp only [Prog.lift, Prog.bind_op, Prog.bind_ret, Prog.pure_eq_ret, bind, Prog.bind]
  iintro ⟨Hx, Hi, Hg, Hw⟩ Hk
  iapply (wp_load 𝒱₀ (c : Thread nD τ) none Set.univ (m := xM) (Finset.subset_univ _)) $$ Hx; iintro Hx
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply Hk
  isplitl [Hx]; · iexact Hx
  isplitl [Hi]; · iexact Hi
  isplitl [Hg]
  · iexact Hg
  · iexact Hw

/-- Storing the first contribution. -/
theorem wp_firstP (d : Bool) {α : Type} {Q : α → sProp 𝕄} {k : PUnit → PR F α} :
    slotAny (F := F) (bufM d) c 0 (by decide)
      ⊢ iprop((slotOwn (bufM d) c 0 (by decide) (accV m d 0 c) -∗ Wp c (k ⟨⟩) Q) -∗ Wp c ((firstP d (turnV m d 0 c)).bind k) Q) := by
  unfold firstP
  simp only [Prog.lift, Prog.bind_op, Prog.bind_ret, Prog.pure_eq_ret, bind, Prog.bind]
  iintro Hs Hk
  iapply (wp_slot_load_any (bufM d) c 0 (Nat.zero_lt_succ 7)) $$ Hs; iintro %x Hs
  iapply (wp_slot_store (bufM d) c 0 (Nat.zero_lt_succ 7) _ (accV m d 0 c) (by unfold accV; exact shapeCast_shapeCast _ _ _)) $$ Hs
  iexact Hk

/-- Adding to what arrived and storing the sum. -/
theorem wp_addP (d : Bool) (n : ℕ) (hn : n + 1 < 7) {α : Type} {Q : α → sProp 𝕄} {k : PUnit → PR F α} :
    slotOwn (bufM d) c (n + 1) (Nat.lt_succ_of_lt hn) (accV m d n (origin d c))
      ⊢ iprop((slotOwn (bufM d) c (n + 1) (Nat.lt_succ_of_lt hn) (accV m d (n + 1) c) -∗ Wp c (k ⟨⟩) Q)
          -∗ Wp c ((addP d (n + 1) hn (turnV m d (n + 1) c)).bind k) Q) := by
  unfold addP
  simp only [Prog.lift, Prog.bind_op, Prog.bind_ret, Prog.pure_eq_ret, bind, Prog.bind]
  iintro Hs Hk
  iapply (wp_slot_load (bufM d) c (n + 1) _ _) $$ Hs; iintro %x %hx Hs
  ihave Hs := (slotAny_intro (F := F) (bufM d) c (n + 1) _ _) $$ Hs
  iapply (wp_slot_load_any (bufM d) c (n + 1) _) $$ Hs; iintro %y Hs
  iapply (wp_slot_store (bufM d) c (n + 1) _ _ (accV m d (n + 1) c) (by rw [hx]; exact shapeCast_shapeCast _ _ _)) $$ Hs
  iexact Hk

end Cert.Moe

end
-- ==== Proof.Body.lean ====
/-
The kernel's run on one device.

The steps put together: a turn, the turns but the last, the last, and the whole of the kernel's program.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × I → ℕ) (c : Dev nD)

omit [FloatOps F] in
theorem bind_bind {α β γ : Type} (p : PR F α) (f : α → PR F β) (g : β → PR F γ) : (p.bind f).bind g = p.bind fun a => (f a).bind g :=
  Prog.bind_assoc p f g

/-! ## The two-column stores -/

omit [FloatOps F] in
/-- A store through a rectangle of a whole buffer writes the elements under the rectangle, -/
theorem write_hit (b : Ref sig .tc) (r : Rect b.ty.shape) (f : b.ty.Contents (Elt F)) (w : r.shape.Idx → Elt F b.ty.elt) (x : r.shape.Idx)
    (i : b.ty.shape.Idx) (hx : r.emb x = i) : ((Memref.whole b).access r).write (Elt F) f w Finset.univ i = w x := by
  subst hx
  exact View.write_emb_of_mem (v := (Memref.whole b).access r) (Val := Elt F) f w (Finset.mem_univ x)

omit [FloatOps F] in
/-- and no other. -/
theorem write_miss (b : Ref sig .tc) (r : Rect b.ty.shape) (f : b.ty.Contents (Elt F)) (w : r.shape.Idx → Elt F b.ty.elt)
    (i : b.ty.shape.Idx) (hi : i ∉ r.set) : ((Memref.whole b).access r).write (Elt F) f w Finset.univ i = f i := by
  refine View.write_of_not_mem (v := (Memref.whole b).access r) (Val := Elt F) f w Finset.univ ?_
  rw [View.setOn_univ, View.set_slice_whole]
  exact hi

/-- Storing both gates fills their buffer. -/
theorem gates_eq (f : (cc0_scratch2 : Ref sig .tc).ty.Contents (Elt F)) :
    (gM.access (colR 1 (Nat.lt_succ_self 1))).write (Elt F) ((gM.access (colR 0 (Nat.zero_lt_succ 1))).write (Elt F) f (gate0 m c) Finset.univ) (gate1 m c) Finset.univ
      = gbuf m c := by
  funext i
  have h1 : (i (1 : Fin 2)).val < 2 := (i (1 : Fin 2)).isLt
  by_cases h : (i (1 : Fin 2)).val = 0
  · have e : gbuf m c i = gate0 m c (ix1 (i (0 : Fin 2))) := if_pos h
    rw [e]
    refine (write_miss cc0_scratch2 (colR 1 (Nat.lt_succ_self 1)) _ _ i fun hi => ?_).trans (write_hit cc0_scratch2 (colR 0 (Nat.zero_lt_succ 1)) _ _ (ix1 (i (0 : Fin 2))) i ?_)
    · have := (Rect.mem_set_unit.mp hi (1 : Fin 2)).1
      have h' : 1 ≤ (i (1 : Fin 2)).val := this
      omega
    · funext a
      refine Fin.ext ?_
      fin_cases a
      · show 0 + 1 * (i (0 : Fin 2)).val = (i (0 : Fin 2)).val
        omega
      · show 0 + 1 * 0 = (i (1 : Fin 2)).val
        omega
  · have e : gbuf m c i = gate1 m c (ix1 (i (0 : Fin 2))) := if_neg h
    rw [e]
    refine write_hit cc0_scratch2 (colR 1 (Nat.lt_succ_self 1)) _ _ (ix1 (i (0 : Fin 2))) i ?_
    funext a
    refine Fin.ext ?_
    fin_cases a
    · show 0 + 1 * (i (0 : Fin 2)).val = (i (0 : Fin 2)).val
      omega
    · show 1 + 1 * 0 = (i (1 : Fin 2)).val
      omega

/-- Storing both halves fills the result. -/
theorem out_eq (f : (cc0_stg4_0 : Ref sig .tc).ty.Contents (Elt F)) :
    (oM.access (halfR true)).write (Elt F) ((oM.access (halfR false)).write (Elt F) f (outV m false c) Finset.univ) (outV m true c) Finset.univ
      = outAt m c := by
  funext i
  have h1 : (i (1 : Fin 2)).val < 1024 := (i (1 : Fin 2)).isLt
  by_cases h : (i (1 : Fin 2)).val < 512
  · have e : outAt m c i = outV m false c (ixH (i (0 : Fin 2)) ⟨(i (1 : Fin 2)).val, h⟩) := dif_pos h
    rw [e]
    refine (write_miss cc0_stg4_0 (halfR true) _ _ i fun hi => ?_).trans
      (write_hit cc0_stg4_0 (halfR false) _ _ (ixH (i (0 : Fin 2)) ⟨(i (1 : Fin 2)).val, h⟩) i ?_)
    · have := (Rect.mem_set_unit.mp hi (1 : Fin 2)).1
      have h' : 512 ≤ (i (1 : Fin 2)).val := this
      omega
    · funext a
      refine Fin.ext ?_
      fin_cases a
      · show 0 + 1 * (i (0 : Fin 2)).val = (i (0 : Fin 2)).val
        omega
      · show 0 + 1 * (i (1 : Fin 2)).val = (i (1 : Fin 2)).val
        omega
  · have e : outAt m c i = outV m true c (ixH (i (0 : Fin 2)) ⟨(i (1 : Fin 2)).val - 512, by omega⟩) := dif_neg h
    rw [e]
    refine write_hit cc0_stg4_0 (halfR true) _ _ (ixH (i (0 : Fin 2)) ⟨(i (1 : Fin 2)).val - 512, by omega⟩) i ?_
    funext a
    refine Fin.ext ?_
    fin_cases a
    · show 0 + 1 * (i (0 : Fin 2)).val = (i (0 : Fin 2)).val
      omega
    · show 512 + 1 * ((i (1 : Fin 2)).val - 512) = (i (1 : Fin 2)).val
      omega

/-! ## Before the ring -/

/-- The staged inputs. -/
def inputs : sProp 𝕄 :=
  iprop(bufAt c cc0_stg0_0 (xstg m c) ∗ bufAt c cc0_stg1_0 (rstg m c) ∗ bufAt c cc0_stg2_0 (istg m c) ∗ bufAt c cc0_stg3_0 (estg m c))

/-- A whole buffer of device `c` at whatever contents. -/
abbrev bufAny (c : Dev nD) (b : Ref sig .tc) : sProp 𝕄 := iprop(∃ f : b.ty.Contents (Elt F), bufAt c b f)

omit [FloatOps F] in
theorem zero2 : (![0, 0] : Fin 2 → ℕ) = fun _ => 0 := funext fun a => by fin_cases a <;> rfl
omit [FloatOps F] in
theorem zero3 : (![0, 0, 0] : Fin 3 → ℕ) = fun _ => 0 := funext fun a => by fin_cases a <;> rfl

/-- The gates and the rounded weights, from the staged inputs. -/
theorem wp_gatesP {α : Type} {Q : α → sProp 𝕄} {k : PUnit → PR F α} :
    iprop(inputs m c ∗ bufAny (F := F) c cc0_scratch2 ∗ bufAny (F := F) c cc0_scratch3)
      ⊢ iprop(((locals m c ∗ bufAt c cc0_stg1_0 (rstg m c) ∗ bufAt c cc0_stg3_0 (estg m c)) -∗ Wp c (k ⟨⟩) Q) -∗ Wp c (gatesP.bind k) Q) := by
  unfold gatesP inputs locals
  simp only [Prog.lift, Prog.bind_op, Prog.bind_ret, Prog.pure_eq_ret, bind, Prog.bind]
  iintro ⟨⟨Hx, Hr, Hi, He⟩, ⟨%fg, Hg⟩, ⟨%fw, Hw⟩⟩ Hk
  iapply (wp_load 𝒱₀ (c : Thread nD τ) none Set.univ (m := xM) (Finset.subset_univ _)) $$ Hx; iintro Hx
  iapply (wp_load 𝒱₀ (c : Thread nD τ) none Set.univ (m := rM) (Finset.subset_univ _)) $$ Hr; iintro Hr
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := gM) (Finset.subset_univ _)) $$ Hg; iintro Hg
  iapply (wp_store 𝒱₀ (c : Thread nD τ) none Set.univ (m := gM) (r := colR 0 (Nat.zero_lt_succ 1)) (Mk := Finset.univ) (Finset.subset_univ _)) $$ Hg; iintro Hg
  iapply (wp_load 𝒱₀ (c : Thread nD τ) none Set.univ (m := gM) (Finset.subset_univ _)) $$ Hg; iintro Hg
  iapply (wp_store 𝒱₀ (c : Thread nD τ) none Set.univ (m := gM) (r := colR 1 (Nat.lt_succ_self 1)) (Mk := Finset.univ) (Finset.subset_univ _)) $$ Hg; iintro Hg
  iapply (wp_load 𝒱₀ (c : Thread nD τ) none Set.univ (m := eM) (Finset.subset_univ _)) $$ He; iintro He
  iapply (wp_load 𝒱₀ (c : Thread nD τ) none Set.univ (m := wM) (Finset.subset_univ _)) $$ Hw; iintro Hw
  iapply (wp_store 𝒱₀ (c : Thread nD τ) none Set.univ (m := wM) (r := Rect.unit (s := S4x512x1024) ![0, 0, 0] S4x512x1024.size inb_S4x512x1024_S4x512x1024_0_0_0) (Mk := Finset.univ) (Finset.subset_univ _)) $$ Hw; iintro Hw
  rw [show (xM.view.readAt (Elt F) (Rect.unit (s := S2048x512) ![0, 0] S2048x512.size inb_S2048x512_S2048x512_0_0).toLoadRect (xstg m c)) = xstg m c
      from Memref.readAt_unit_zero (Elt F) cc0_stg0_0 zero2 _ _,
    show (rM.view.readAt (Elt F) (Rect.unit (s := S512x32) ![0, 0] S512x32.size inb_S512x32_S512x32_0_0).toLoadRect (rstg m c)) = rstg m c
      from Memref.readAt_unit_zero (Elt F) cc0_stg1_0 zero2 _ _,
    show (eM.view.readAt (Elt F) (Rect.unit (s := S4x512x1024) ![0, 0, 0] S4x512x1024.size inb_S4x512x1024_S4x512x1024_0_0_0).toLoadRect (estg m c)) = estg m c
      from Memref.readAt_unit_zero (Elt F) cc0_stg3_0 zero3 _ _]
  iapply Hk
  isplitl [Hx Hi Hg Hw]
  · isplitl [Hx]; · iexact Hx
    isplitl [Hi]; · iexact Hi
    isplitl [Hg]
    · rw [← gates_eq m c fg]
      iexact Hg
    · rw [show wbuf m c = _ from (Memref.write_access_unit_zero_univ (Elt F) cc0_scratch3 zero3 inb_S4x512x1024_S4x512x1024_0_0_0 fw (k0_pay10 (estg m c))).symm]
      iexact Hw
  isplitl [Hr]; · iexact Hr
  iexact He

omit [FloatOps F] in
/-- Device `c` hands its left neighbour the slots that neighbour's transfers to the right will fill, -/
theorem barPay_prv : barPay (F := F) (prv c) false = bigSep Finset.univ fun s : Fin 7 => slotAny (F := F) (bufM false) c (s.val + 1) (Nat.succ_lt_succ s.isLt) := by
  unfold barPay
  rw [show dest false (prv c) = c from nxt_prv c]
omit [FloatOps F] in
/-- and its right neighbour those that neighbour's transfers to the left will. -/
theorem barPay_nxt : barPay (F := F) (nxt c) true = bigSep Finset.univ fun s : Fin 7 => slotAny (F := F) (bufM true) c (s.val + 1) (Nat.succ_lt_succ s.isLt) := by
  unfold barPay
  rw [show dest true (nxt c) = c from prv_nxt c]

/-- The handshake: a device gives each neighbour the slots that neighbour will fill, and gets those it will fill. -/
theorem wp_shakeP (n1 n2 : Dev nD) (h1 : n1 = prv c) (h2 : n2 = nxt c) {α : Type} {Q : α → sProp 𝕄} {k : PUnit → PR F α} :
    iprop(records m K ∗ levAts L lv ∗ owesE (F := F) c (O₀ c) ∗ barPay (F := F) (prv c) false ∗ barPay (F := F) (nxt c) true
        ∗ dutyTok ER (barCell (prv c)) 0 false ∗ dutyTok ER (barCell (nxt c)) 0 true
        ∗ atPos ER (barCell c) 0 ∅ 0 ∗ cred (tallyAt (barCell c) () 2))
      ⊢ iprop(((owesE (F := F) c (owedFrom c 0) ∗ barPay (F := F) c false ∗ barPay (F := F) c true ∗ semVal (barCell c) 0) -∗ Wp c (k ⟨⟩) Q)
          -∗ Wp c ((shakeP n1 n2).bind k) Q) := by
  subst h1 h2
  unfold shakeP owesE
  simp only [semSignalWord, semWaitWord, Prog.lift, Prog.bind_op, Prog.bind_ret, Prog.pure_eq_ret, bind, Prog.bind]
  iintro ⟨#HR, #HL, ⟨%W, HO⟩, HpL, HpR, HtL, HtR, Hat, Hc⟩ Hk
  ihave #HI := (inv_at m K (c, .inl ())) $$ HR
  iapply (Rounds.wp_signal 𝒱₀ ER (ringRd m) (c : Thread nD τ) none (dst := (prv c : Thread nD τ)) (κ := K (prv c, .inl ()))
      (d := false) (by rw [duties_bar]; exact Finset.mem_univ _) ((amount_bar m (prv c) false).trans (by decide)) () (O₁ c) rfl) $$ [HO HtL HpL]
  · isplitr; · iapply (inv_at m K (prv c, .inl ())); iexact HR
    isplitl [HO]; · iexact HO
    isplitl [HtL]; · iexact HtL
    isplitl [HpL]; · rw [payload_bar]; iexact HpL
    iapply (reached_at m K (prv c, .inl ())); iexact HR
  iintro HO
  unfold O₁
  iapply (Rounds.wp_signal 𝒱₀ ER (ringRd m) (c : Thread nD τ) none (dst := (nxt c : Thread nD τ)) (κ := K (nxt c, .inl ()))
      (d := true) (by rw [duties_bar]; exact Finset.mem_univ _) ((amount_bar m (nxt c) true).trans (by decide)) () (owedFrom c 0) rfl) $$ [HO HtR HpR]
  · isplitr; · iapply (inv_at m K (nxt c, .inl ())); iexact HR
    isplitl [HO]; · iexact HO
    isplitl [HtR]; · iexact HtR
    isplitl [HpR]; · rw [payload_bar]; iexact HpR
    iapply (reached_at m K (nxt c, .inl ())); iexact HR
  iintro HO
  iapply (Rounds.wp_wait_rest_token 𝒱₀ ER (ringRd m) (c : Thread nD τ) none (κ := K (c, .inl ()))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_from (F := F) c (.reg barS) 0 (by decide)); iexact HL
    iexact Hat
  iintro ⟨HO, Hat, -, Hpay⟩
  ihave Hp := (Entails.of_eq (rest_bar m c)) $$ Hpay
  icases Hp with ⟨HpL, HpR⟩
  imod (Rounds.cell_close ER (ringRd m) (Set.mem_univ (K (c, .inl ()))) (fun h => h) (R := 0 + 1) (duties_later m (barCell c))) $$ [Hat] with Hz
  · isplitr; · iexact HI
    iexact Hat
  iapply Hk
  isplitl [HO]
  · iexists _; iexact HO
  isplitl [HpL]; · iexact HpL
  isplitl [HpR]; · iexact HpR
  iexact Hz

/-- The first contributions. -/
theorem wp_beginP {α : Type} {Q : α → sProp 𝕄} {k : PUnit → PR F α} :
    iprop(locals m c ∗ slotAny (F := F) (bufM false) c 0 (by decide) ∗ slotAny (F := F) (bufM true) c 0 (by decide))
      ⊢ iprop(((locals m c ∗ slotOwn (bufM false) c 0 (by decide) (accV m false 0 c) ∗ slotOwn (bufM true) c 0 (by decide) (accV m true 0 c)) -∗ Wp c (k ⟨⟩) Q)
          -∗ Wp c ((beginP c).bind k) Q) := by
  unfold beginP
  simp only [bind, bind_bind]
  iintro ⟨Hl, H0, H1⟩ Hk
  iapply (wp_partP m c false (tgt false 0 c) (tgt_lt false 0 c)
    ((k0_off1_eq c).trans (by show _ = ![256 * ((c.val + 15 - 0) % 8), 0]; rw [show (c.val + 15 - 0) % 8 = (c.val + 7) % 8 by omega]))
    ((k0_off2_eq c).trans (by show _ = ![256 * ((c.val + 15 - 0) % 8), 0]; rw [show (c.val + 15 - 0) % 8 = (c.val + 7) % 8 by omega]))
    ((k0_off3_eq c).trans (by show _ = ![256 * ((c.val + 15 - 0) % 8), 1]; rw [show (c.val + 15 - 0) % 8 = (c.val + 7) % 8 by omega])) _ _ _) $$ Hl
  iintro Hl
  iapply (wp_firstP m c false) $$ H0; iintro H0
  iapply (wp_partP m c true (tgt true 0 c) (tgt_lt true 0 c) (k0_off4_eq c) (k0_off5_eq c) (k0_off6_eq c) _ _ _) $$ Hl
  iintro Hl
  iapply (wp_firstP m c true) $$ H1; iintro H1
  iapply Hk
  isplitl [Hl]; · iexact Hl
  isplitl [H0]; · iexact H0
  iexact H1

/-! ## Around the ring -/

/-- What turn `s` takes: both directions' transfers' resources, and the neighbours' slots they fill. -/
def turnIn (s : Fin 7) : sProp 𝕄 :=
  iprop((dirRes c false s ∗ dirRes c true s) ∗ slotAny (F := F) (bufM false) (dest false c) (s.val + 1) (Nat.succ_lt_succ s.isLt)
    ∗ slotAny (F := F) (bufM true) (dest true c) (s.val + 1) (Nat.succ_lt_succ s.isLt))

/-- What it leaves: the cells closed, and the slots the transfers read. -/
def turnOut (s : Fin 7) : sProp 𝕄 :=
  iprop((dirDone (F := F) c false s ∗ dirDone (F := F) c true s) ∗ slotAny (F := F) (bufM false) c s.val (Nat.lt_succ_of_lt s.isLt)
    ∗ slotAny (F := F) (bufM true) c s.val (Nat.lt_succ_of_lt s.isLt))

/-- What is carried from turn to turn: the sums to pass on, what is owed, and what the contributions are computed from. -/
def carry (n : ℕ) (hn : n < 8) : sProp 𝕄 :=
  iprop(slotOwn (bufM false) c n hn (accV m false n c) ∗ slotOwn (bufM true) c n hn (accV m true n c) ∗ owesE (F := F) c (owedFrom c n) ∗ locals m c)

/-- A turn up to both arrivals. -/
theorem wp_turnP (s : Fin 7) (n1 n2 : Dev nD) (h1 : n1 = nxt c) (h2 : n2 = prv c) {α : Type} {Q : α → sProp 𝕄}
    {k : FVec F S256x512 .f32 × FVec F S256x512 .f32 → PR F α} :
    iprop(records m K ∗ levAts L lv ∗ turnIn (F := F) c s ∗ carry m c s.val (Nat.lt_succ_of_lt s.isLt))
      ⊢ iprop(((turnOut (F := F) c s ∗ slotOwn (bufM false) c (s.val + 1) (Nat.succ_lt_succ s.isLt) (accV m false s.val (origin false c))
            ∗ slotOwn (bufM true) c (s.val + 1) (Nat.succ_lt_succ s.isLt) (accV m true s.val (origin true c))
            ∗ owesE (F := F) c (owedFrom c (s.val + 1)) ∗ locals m c) -∗ Wp c (k (turnV m false (s.val + 1) c, turnV m true (s.val + 1) c)) Q)
          -∗ Wp c ((turnP c s n1 n2).bind k) Q) := by
  unfold turnP turnIn carry dirRes
  simp only [bind, bind_bind, Pure.pure]
  rw [owedFrom_step c s]
  iintro ⟨#HR, #HL, ⟨⟨⟨Hs0, Hr0, Ha0, Hb0, Hc0⟩, ⟨Hs1, Hr1, Ha1, Hb1, Hc1⟩⟩, Hd0, Hd1⟩, Hv0, Hv1, HO, Hl⟩ Hk
  iapply (wp_sendP m K c false s n1 h1 (owedFrom c (s.val + 1) + owedXfer c true s)) $$ [Hv0 Hd0 HO Hs0 Hr0]
  · isplitr; · iexact HR
    isplitl [Hv0]; · iexact Hv0
    isplitl [Hd0]; · iexact Hd0
    isplitl [HO]; · iexact HO
    isplitl [Hs0]; · iexact Hs0
    iexact Hr0
  iintro ⟨Hq0, HO⟩
  iapply (wp_sendP m K c true s n2 h2 (owedFrom c (s.val + 1))) $$ [Hv1 Hd1 HO Hs1 Hr1]
  · isplitr; · iexact HR
    isplitl [Hv1]; · iexact Hv1
    isplitl [Hd1]; · iexact Hd1
    isplitl [HO]; · iexact HO
    isplitl [Hs1]; · iexact Hs1
    iexact Hr1
  iintro ⟨Hq1, HO⟩
  iapply (wp_partP m c false (tgt false (s.val + 1) c) (tgt_lt false (s.val + 1) c)
    ((k0_off7_eq c s).trans (by show _ = ![256 * ((c.val + 15 - (s.val + 1)) % 8), 0]; rw [show c.val + 15 - (s.val + 1) = c.val + 14 - s.val by omega]))
    ((k0_off8_eq c s).trans (by show _ = ![256 * ((c.val + 15 - (s.val + 1)) % 8), 0]; rw [show c.val + 15 - (s.val + 1) = c.val + 14 - s.val by omega]))
    ((k0_off9_eq c s).trans (by show _ = ![256 * ((c.val + 15 - (s.val + 1)) % 8), 1]; rw [show c.val + 15 - (s.val + 1) = c.val + 14 - s.val by omega])) _ _ _) $$ Hl
  iintro Hl
  iapply (wp_partP m c true (tgt true (s.val + 1) c) (tgt_lt true (s.val + 1) c) (k0_off10_eq c s) (k0_off11_eq c s) (k0_off12_eq c s) _ _ _) $$ Hl
  iintro Hl
  iapply (wp_waitSendP m K c false s (s.val + 1)) $$ [Hq0 HO Ha0]
  · isplitr; · iexact HR
    isplitr; · iexact HL
    isplitl [Hq0]; · iexact Hq0
    isplitl [HO]; · iexact HO
    iexact Ha0
  iintro ⟨Hv0, HO, Hz0⟩
  iapply (wp_waitRecvP m K c false s) $$ [Hc0 HO Hb0]
  · isplitr; · iexact HR
    isplitr; · iexact HL
    isplitl [Hc0]; · iexact Hc0
    isplitl [HO]; · iexact HO
    iexact Hb0
  iintro ⟨Hn0, HO, Hy0⟩
  iapply (wp_waitSendP m K c true s (s.val + 1)) $$ [Hq1 HO Ha1]
  · isplitr; · iexact HR
    isplitr; · iexact HL
    isplitl [Hq1]; · iexact Hq1
    isplitl [HO]; · iexact HO
    iexact Ha1
  iintro ⟨Hv1, HO, Hz1⟩
  iapply (wp_waitRecvP m K c true s) $$ [Hc1 HO Hb1]
  · isplitr; · iexact HR
    isplitr; · iexact HL
    isplitl [Hc1]; · iexact Hc1
    isplitl [HO]; · iexact HO
    iexact Hb1
  iintro ⟨Hn1, HO, Hy1⟩
  iapply Hk
  unfold turnOut dirDone
  isplitl [Hz0 Hy0 Hz1 Hy1 Hv0 Hv1]
  · isplitl [Hz0 Hy0 Hz1 Hy1]
    · isplitl [Hz0 Hy0]
      · isplitl [Hz0]; · iexact Hz0
        iexact Hy0
      · isplitl [Hz1]; · iexact Hz1
        iexact Hy1
    · isplitl [Hv0]; · iexact Hv0
      iexact Hv1
  isplitl [Hn0]; · iexact Hn0
  isplitl [Hn1]; · iexact Hn1
  isplitl [HO]; · iexact HO
  iexact Hl

/-- A turn but the last. -/
theorem wp_stepP (s : Fin 6) (n1 n2 : Dev nD) (h1 : n1 = nxt c) (h2 : n2 = prv c) {α : Type} {Q : α → sProp 𝕄} {k : PUnit → PR F α} :
    iprop(records m K ∗ levAts L lv ∗ turnIn (F := F) c s.castSucc ∗ carry m c s.val (by have := s.isLt; omega))
      ⊢ iprop(((turnOut (F := F) c s.castSucc ∗ carry m c (s.val + 1) (by have := s.isLt; omega)) -∗ Wp c (k ⟨⟩) Q)
          -∗ Wp c ((stepP c s n1 n2).bind k) Q) := by
  unfold stepP
  simp only [bind, bind_bind]
  iintro ⟨#HR, #HL, HT, HC⟩ Hk
  iapply (wp_turnP m K c s.castSucc n1 n2 h1 h2) $$ [HT HC]
  · isplitr; · iexact HR
    isplitr; · iexact HL
    isplitl [HT]; · iexact HT
    iexact HC
  simp only [Fin.val_castSucc]
  iintro ⟨HT, H0, H1, HO, Hl⟩
  iapply (wp_addP m c false s.val (Nat.succ_lt_succ s.isLt)) $$ H0; iintro H0
  iapply (wp_addP m c true s.val (Nat.succ_lt_succ s.isLt)) $$ H1; iintro H1
  iapply Hk
  unfold carry
  isplitl [HT]; · iexact HT
  isplitl [H0]; · iexact H0
  isplitl [H1]; · iexact H1
  isplitl [HO]; · iexact HO
  iexact Hl

/-- Storing a direction's half of the result. -/
theorem wp_outP (d : Bool) (f : (cc0_stg4_0 : Ref sig .tc).ty.Contents (Elt F)) {α : Type} {Q : α → sProp 𝕄} {k : PUnit → PR F α} :
    iprop(slotOwn (bufM d) c 7 (by decide) (accV m d 6 (origin d c)) ∗ bufAt c cc0_stg4_0 f)
      ⊢ iprop(((slotAny (F := F) (bufM d) c 7 (by decide) ∗ bufAt c cc0_stg4_0 ((oM.access (halfR d)).write (Elt F) f (outV m d c) Finset.univ)) -∗ Wp c (k ⟨⟩) Q)
          -∗ Wp c ((outP d (turnV m d 7 c)).bind k) Q) := by
  unfold outP
  simp only [Prog.lift, Prog.bind_op, Prog.bind_ret, Prog.pure_eq_ret, bind, Prog.bind]
  iintro ⟨Hs, Ho⟩ Hk
  iapply (wp_slot_load (bufM d) c 7 _ _) $$ Hs; iintro %x %hx Hs
  iapply (wp_load 𝒱₀ (c : Thread nD τ) none Set.univ (m := oM) (Finset.subset_univ _)) $$ Ho; iintro Ho
  rw [hx]
  iapply (wp_store 𝒱₀ (c : Thread nD τ) none Set.univ (m := oM) (r := halfR d) (Mk := Finset.univ) (Finset.subset_univ _)) $$ Ho; iintro Ho
  iapply Hk
  isplitl [Hs]
  · iapply (slotAny_intro (F := F) (bufM d) c 7 _ _); iexact Hs
  iexact Ho

/-- The last turn: the result is stored. -/
theorem wp_lastP (n1 n2 : Dev nD) (h1 : n1 = nxt c) (h2 : n2 = prv c) {α : Type} {Q : α → sProp 𝕄} {k : PUnit → PR F α} :
    iprop(records m K ∗ levAts L lv ∗ turnIn (F := F) c 6 ∗ carry m c 6 (by decide) ∗ bufAny (F := F) c cc0_stg4_0)
      ⊢ iprop(((turnOut (F := F) c 6 ∗ slotAny (F := F) (bufM false) c 7 (by decide) ∗ slotAny (F := F) (bufM true) c 7 (by decide)
            ∗ owesE (F := F) c 0 ∗ locals m c ∗ bufAt c cc0_stg4_0 (outAt m c)) -∗ Wp c (k ⟨⟩) Q)
          -∗ Wp c ((lastP c n1 n2).bind k) Q) := by
  unfold lastP
  simp only [bind, bind_bind]
  iintro ⟨#HR, #HL, HT, HC, ⟨%f, Ho⟩⟩ Hk
  iapply (wp_turnP m K c 6 n1 n2 h1 h2) $$ [HT HC]
  · isplitr; · iexact HR
    isplitr; · iexact HL
    isplitl [HT]; · iexact HT
    iexact HC
  iintro ⟨HT, H0, H1, HO, Hl⟩
  dsimp only
  iapply (wp_outP m c false f) $$ [H0 Ho]
  · isplitl [H0]; · iexact H0
    iexact Ho
  iintro ⟨H0, Ho⟩
  iapply (wp_outP m c true _) $$ [H1 Ho]
  · isplitl [H1]; · iexact H1
    iexact Ho
  iintro ⟨H1, Ho⟩
  iapply Hk
  isplitl [HT]; · iexact HT
  isplitl [H0]; · iexact H0
  isplitl [H1]; · iexact H1
  isplitl [HO]; · iexact HO
  isplitl [Hl]; · iexact Hl
  rw [out_eq]
  iexact Ho

end Cert.Moe

end
-- ==== Proof.Whole.lean ====
/-
The kernel's run on one device, from its launch to its end.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × I → ℕ) (c : Dev nD)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A direction's ring buffer, by name. -/
abbrev bufB (d : Bool) : Ref sig .tc := bif d then cc0_scratch1 else cc0_scratch0

omit [FloatOps F] in
/-- A ring buffer is its slot 0 and the seven slots to be filled. -/
theorem ring_split (d : Bool) : bufAny (F := F) c (bufB d)
    ⊢ iprop(slotAny (F := F) (bufM d) c 0 (by decide) ∗ bigSep Finset.univ fun s : Fin 7 => slotAny (F := F) (bufM d) c (s.val + 1) (Nat.succ_lt_succ s.isLt)) := by
  have h : ∀ f, bufAt (F := F) c (bufB d) f ⊢ bigSep Finset.univ fun k : Fin 8 => slotAny (F := F) (bufM d) c k.val k.isLt := by
    cases d
    · exact fun f => BIBase.Entails.trans (Entails.of_eq (by rw [show (bufM false).view.set = Finset.univ from View.set_whole _]; rfl)) (slots_split (bufM false) c f)
    · exact fun f => BIBase.Entails.trans (Entails.of_eq (by rw [show (bufM true).view.set = Finset.univ from View.set_whole _]; rfl)) (slots_split (bufM true) c f)
  iintro ⟨%f, H⟩
  ihave H := (h f) $$ H
  iapply (show (bigSep Finset.univ fun k : Fin 8 => slotAny (F := F) (bufM d) c k.val k.isLt) ⊢ _ from
    Entails.of_eq (by rw [bigSep_fin8, bigSep_fin7]; rfl)) $$ H

/-- And the seven slots its transfers read and the last one are a ring buffer. -/
theorem ring_join (d : Bool) :
    iprop((bigSep Finset.univ fun s : Fin 7 => slotAny (F := F) (bufM d) c s.val (Nat.lt_succ_of_lt s.isLt)) ∗ slotAny (F := F) (bufM d) c 7 (by decide))
      ⊢ bufAny (F := F) c (bufB d) := by
  have h : (bigSep Finset.univ fun k : Fin 8 => slotAny (F := F) (bufM d) c k.val k.isLt) ⊢ bufAny (F := F) c (bufB d) := by
    cases d
    · refine BIBase.Entails.trans (slots_join (bufM false) c fun _ => FloatOps.ofBits .bf16 0) (Entails.of_eq ?_)
      rw [show (bufM false).view.set = Finset.univ from View.set_whole _]
      rfl
    · refine BIBase.Entails.trans (slots_join (bufM true) c fun _ => FloatOps.ofBits .bf16 0) (Entails.of_eq ?_)
      rw [show (bufM true).view.set = Finset.univ from View.set_whole _]
      rfl
  refine BIBase.Entails.trans ?_ h
  rw [bigSep_fin8, bigSep_fin7]
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What device `c`'s run ends with. -/
def bodyEnd : sProp 𝕄 :=
  iprop(owesE (F := F) c 0 ∗ inputs m c ∗ bufAt c cc0_stg4_0 (outAt m c)
    ∗ (bufAny (F := F) c cc0_scratch0 ∗ bufAny (F := F) c cc0_scratch1 ∗ bufAny (F := F) c cc0_scratch2 ∗ bufAny (F := F) c cc0_scratch3)
    ∗ semVal (barCell c) 0 ∗ bigSep Finset.univ fun s : Fin 7 => iprop(dirDone (F := F) c false s ∗ dirDone (F := F) c true s))

/-- What it begins with, besides what everyone may know. -/
def bodyStart : sProp 𝕄 :=
  iprop(owesE (F := F) c (O₀ c) ∗ inputs m c ∗ bufAny (F := F) c cc0_stg4_0
    ∗ (bufAny (F := F) c cc0_scratch0 ∗ bufAny (F := F) c cc0_scratch1 ∗ bufAny (F := F) c cc0_scratch2 ∗ bufAny (F := F) c cc0_scratch3)
    ∗ (dutyTok ER (barCell (prv c)) 0 false ∗ dutyTok ER (barCell (nxt c)) 0 true ∗ atPos ER (barCell c) 0 ∅ 0 ∗ cred (tallyAt (barCell c) () 2))
    ∗ bigSep Finset.univ fun s : Fin 7 => iprop(dirRes (F := F) c false s ∗ dirRes (F := F) c true s))

omit [FloatOps F] in
/-- The transfers' resources and the neighbours' slots are the turns'. -/
theorem turns_in :
    iprop((bigSep Finset.univ fun s : Fin 7 => iprop(dirRes (F := F) c false s ∗ dirRes (F := F) c true s)) ∗ barPay (F := F) c false ∗ barPay (F := F) c true)
      ⊢ bigSep Finset.univ fun s : Fin 7 => turnIn (F := F) c s := by
  unfold turnIn barPay
  simp only [bigSep_sep']
  exact BI.Entails.refl _

omit [FloatOps F] in
/-- What the turns leave, sorted. -/
theorem turns_out :
    (bigSep Finset.univ fun s : Fin 7 => turnOut (F := F) c s)
      ⊢ iprop((bigSep Finset.univ fun s : Fin 7 => iprop(dirDone (F := F) c false s ∗ dirDone (F := F) c true s))
        ∗ (bigSep Finset.univ fun s : Fin 7 => slotAny (F := F) (bufM false) c s.val (Nat.lt_succ_of_lt s.isLt))
        ∗ bigSep Finset.univ fun s : Fin 7 => slotAny (F := F) (bufM true) c s.val (Nat.lt_succ_of_lt s.isLt)) := by
  unfold turnOut
  simp only [bigSep_sep']
  exact BI.Entails.refl _

theorem left_of {n : ℕ} (h : n = (c.val + 7) % 8) (hn : n < 8) : (⟨n, hn⟩ : Dev nD) = prv c := Fin.ext h
theorem right_of {n : ℕ} (h : n = (c.val + 1) % 8) (hn : n < 8) : (⟨n, hn⟩ : Dev nD) = nxt c := Fin.ext h

/-- Device `c`'s run. -/
theorem wp_bodyP : iprop(records m K ∗ levAts L lv ∗ bodyStart m c) ⊢ Wp c (bodyP (F := F)) fun _ => bodyEnd m c := by
  unfold bodyP bodyStart
  simp only [Prog.lift, bind, Prog.bind, wp_deviceId]
  rw [show (lastP (F := F) c ⟨k0_dev15 c, k0_dev15_lt c⟩ ⟨k0_dev16 c, k0_dev16_lt c⟩) = (lastP (F := F) c ⟨k0_dev15 c, k0_dev15_lt c⟩ ⟨k0_dev16 c, k0_dev16_lt c⟩).bind Prog.ret
    from (Prog.bind_pure _).symm]
  iintro ⟨#HR, #HL, HO, Hin, Hout, ⟨Hs0, Hs1, Hs2, Hs3⟩, ⟨HtL, HtR, Hat, Hc⟩, Hres⟩
  iapply (wp_gatesP m c) $$ [Hin Hs2 Hs3]
  · isplitl [Hin]; · iexact Hin
    isplitl [Hs2]; · iexact Hs2
    iexact Hs3
  iintro ⟨Hl, Hr, He⟩
  ihave H0 := (show bufAny (F := F) c cc0_scratch0 ⊢ _ from ring_split (F := F) c false) $$ Hs0
  icases H0 with ⟨H0, Hg0⟩
  ihave H1 := (show bufAny (F := F) c cc0_scratch1 ⊢ _ from ring_split (F := F) c true) $$ Hs1
  icases H1 with ⟨H1, Hg1⟩
  iapply (wp_shakeP m K c _ _ (left_of c (k0_dev1_eq c) _) (right_of c (k0_dev2_eq c) _)) $$ [HO HtL HtR Hat Hc Hg0 Hg1]
  · isplitr; · iexact HR
    isplitr; · iexact HL
    isplitl [HO]; · iexact HO
    isplitl [Hg0]; · rw [barPay_prv]; iexact Hg0
    isplitl [Hg1]; · rw [barPay_nxt]; iexact Hg1
    isplitl [HtL]; · iexact HtL
    isplitl [HtR]; · iexact HtR
    isplitl [Hat]; · iexact Hat
    iexact Hc
  iintro ⟨HO, Hp0, Hp1, Hz⟩
  ihave HT := (turns_in (F := F) c) $$ [Hres Hp0 Hp1]
  · isplitl [Hres]; · iexact Hres
    isplitl [Hp0]; · iexact Hp0
    iexact Hp1
  ihave HT := (Entails.of_eq (bigSep_fin7 (F := F) fun s => turnIn (F := F) c s)) $$ HT
  icases HT with ⟨HT0, HT1, HT2, HT3, HT4, HT5, HT6⟩
  iapply (wp_beginP m c) $$ [Hl H0 H1]
  · isplitl [Hl]; · iexact Hl
    isplitl [H0]; · iexact H0
    iexact H1
  iintro ⟨Hl, H0, H1⟩
  ihave HC := (show iprop(slotOwn (bufM false) c 0 (by decide) (accV m false 0 c) ∗ slotOwn (bufM true) c 0 (by decide) (accV m true 0 c)
      ∗ owesE (F := F) c (owedFrom c 0) ∗ locals m c) ⊢ carry m c 0 (by decide) from by unfold carry; exact BI.Entails.refl _) $$ [H0 H1 HO Hl]
  · isplitl [H0]; · iexact H0
    isplitl [H1]; · iexact H1
    isplitl [HO]; · iexact HO
    iexact Hl
  iapply (wp_stepP m K c 0 _ _ (right_of c (k0_dev3_eq c) _) (left_of c (k0_dev4_eq c) _)) $$ [HT0 HC]
  · isplitr; · iexact HR
    isplitr; · iexact HL
    isplitl [HT0]; · iexact HT0
    iexact HC
  iintro ⟨HD0, HC⟩
  iapply (wp_stepP m K c 1 _ _ (right_of c (k0_dev5_eq c) _) (left_of c (k0_dev6_eq c) _)) $$ [HT1 HC]
  · isplitr; · iexact HR
    isplitr; · iexact HL
    isplitl [HT1]; · iexact HT1
    iexact HC
  iintro ⟨HD1, HC⟩
  iapply (wp_stepP m K c 2 _ _ (right_of c (k0_dev7_eq c) _) (left_of c (k0_dev8_eq c) _)) $$ [HT2 HC]
  · isplitr; · iexact HR
    isplitr; · iexact HL
    isplitl [HT2]; · iexact HT2
    iexact HC
  iintro ⟨HD2, HC⟩
  iapply (wp_stepP m K c 3 _ _ (right_of c (k0_dev9_eq c) _) (left_of c (k0_dev10_eq c) _)) $$ [HT3 HC]
  · isplitr; · iexact HR
    isplitr; · iexact HL
    isplitl [HT3]; · iexact HT3
    iexact HC
  iintro ⟨HD3, HC⟩
  iapply (wp_stepP m K c 4 _ _ (right_of c (k0_dev11_eq c) _) (left_of c (k0_dev12_eq c) _)) $$ [HT4 HC]
  · isplitr; · iexact HR
    isplitr; · iexact HL
    isplitl [HT4]; · iexact HT4
    iexact HC
  iintro ⟨HD4, HC⟩
  iapply (wp_stepP m K c 5 _ _ (right_of c (k0_dev13_eq c) _) (left_of c (k0_dev14_eq c) _)) $$ [HT5 HC]
  · isplitr; · iexact HR
    isplitr; · iexact HL
    isplitl [HT5]; · iexact HT5
    iexact HC
  iintro ⟨HD5, HC⟩
  iapply (wp_lastP m K c _ _ (right_of c (k0_dev15_eq c) _) (left_of c (k0_dev16_eq c) _)) $$ [HT6 HC Hout]
  · isplitr; · iexact HR
    isplitr; · iexact HL
    isplitl [HT6]; · iexact HT6
    isplitl [HC]; · iexact HC
    iexact Hout
  iintro ⟨HD6, H0, H1, HO, Hl, Hout⟩
  unfold Wp
  rw [wp_ret]
  imodintro
  ihave HD := (Entails.of_eq (bigSep_fin7 (F := F) fun s => turnOut (F := F) c s).symm) $$ [HD0 HD1 HD2 HD3 HD4 HD5 HD6]
  · isplitl [HD0]; · iexact HD0
    isplitl [HD1]; · iexact HD1
    isplitl [HD2]; · iexact HD2
    isplitl [HD3]; · iexact HD3
    isplitl [HD4]; · iexact HD4
    isplitl [HD5]; · iexact HD5
    iexact HD6
  ihave HD := (turns_out (F := F) c) $$ HD
  icases HD with ⟨HD, Hg0, Hg1⟩
  unfold bodyEnd inputs locals
  icases Hl with ⟨Hx, Hi, Hg, Hw⟩
  isplitl [HO]; · iexact HO
  isplitl [Hx Hr Hi He]
  · isplitl [Hx]; · iexact Hx
    isplitl [Hr]; · iexact Hr
    isplitl [Hi]; · iexact Hi
    iexact He
  isplitl [Hout]; · iexact Hout
  isplitl [H0 H1 Hg0 Hg1 Hg Hw]
  · isplitl [H0 Hg0]
    · iapply (show _ ⊢ bufAny (F := F) c cc0_scratch0 from ring_join (F := F) c false)
      isplitl [Hg0]; · iexact Hg0
      iexact H0
    isplitl [H1 Hg1]
    · iapply (show _ ⊢ bufAny (F := F) c cc0_scratch1 from ring_join (F := F) c true)
      isplitl [Hg1]; · iexact Hg1
      iexact H1
    isplitl [Hg]
    · iexists _; iexact Hg
    · iexists _; iexact Hw
  isplitl [Hz]; · iexact Hz
  iexact HD

end Cert.Moe

end
-- ==== Proof.Launch.lean ====
/-
The launch.

What every device starts with — the tokens of the duties it pays, its positions in the schedule, the credit for what it
is owed — comes from the program's start, dealt around the ring. Every device's run then being known, so is the whole
program's: it ends, the arguments are unchanged, every counter is at zero, and the result is `outAt`.
-/
module

public import proofs.«01_k».proof.Proof.Whole
public import proofs.«01_k».proof.Proof.Gen.KernelIdeal.Frame
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-- The machine at launch: any contents, every counter zero, any generator registers. -/
def s₀ : MemSt nD τ sig (Elt F) := ⟨m, fun _ => 0, ρ⟩

/-- The ring, as a permutation of the devices. -/
def ring : Dev nD ≃ Dev nD := ⟨nxt, prv, prv_nxt, nxt_prv⟩
/-- A direction's step, as a permutation. -/
def destEquiv (d : Bool) : Dev nD ≃ Dev nD := ⟨dest d, origin d, origin_dest d, dest_origin d⟩

/-- The kernel's own semaphores. -/
abbrev osem (j : J) : SemLoc sig := .dma (jsem j)

/-! ## Sorting -/

omit [FloatOps F] in
theorem bigSep_bool (Φ : Bool → sProp 𝕄) : bigSep Finset.univ Φ = iprop(Φ false ∗ Φ true) :=
  bigSep_univ_eq_bigSepL [false, true] (by decide) (by decide) Φ
omit [FloatOps F] in
theorem bigSep_unit (Φ : Unit → sProp 𝕄) : bigSep Finset.univ Φ = Φ () :=
  bigSep_univ_eq_bigSepL [()] (by decide) (by decide) Φ
omit [FloatOps F] in
/-- Over the transfers' ends: by direction, sending and receiving, turn by turn. -/
theorem bigSep_J (Φ : J → sProp 𝕄) : bigSep Finset.univ Φ
    = iprop(((bigSep Finset.univ fun s => Φ (false, false, s)) ∗ (bigSep Finset.univ fun s => Φ (false, true, s)))
      ∗ (bigSep Finset.univ fun s => Φ (true, false, s)) ∗ (bigSep Finset.univ fun s => Φ (true, true, s))) := by
  rw [bigSep_univ_prod, bigSep_bool, bigSep_univ_prod, bigSep_univ_prod, bigSep_bool, bigSep_bool]
omit [FloatOps F] in
/-- Over a device's cells: the barrier's, the transfers' ends'. -/
theorem bigSep_I (Φ : I → sProp 𝕄) : bigSep Finset.univ Φ = iprop(Φ (.inl ()) ∗ bigSep Finset.univ fun j => Φ (.inr j)) := by
  rw [BI.bigSep_univ_sum, bigSep_unit]
  rfl

/-! ## What a device holds at launch -/

/-- The tokens of the duties device `c` pays. -/
def payToks (c : Dev nD) : sProp 𝕄 :=
  iprop((dutyTok ER (barCell (prv c)) 0 false ∗ dutyTok ER (barCell (nxt c)) 0 true)
    ∗ ((bigSep Finset.univ fun s => dutyTok ER (dcell c (false, false, s)) 0 false) ∗ (bigSep Finset.univ fun s => dutyTok ER (dcell (dest false c) (false, true, s)) 0 false))
    ∗ (bigSep Finset.univ fun s => dutyTok ER (dcell c (true, false, s)) 0 false) ∗ (bigSep Finset.univ fun s => dutyTok ER (dcell (dest true c) (true, true, s)) 0 false))

/-- Those, and its positions. -/
def linear (c : Dev nD) : sProp 𝕄 :=
  iprop((bigSep Finset.univ fun i : I => atPos ER (kcell (c, i)) 0 ∅ 0) ∗ payToks c)

/-- And the records. -/
def G' (c : Dev nD) : sProp 𝕄 := iprop(∃ K, records m K ∗ linear c)

/-- And the credit for what device `c` is owed, and the order of the waits. -/
def start (c : Dev nD) : sProp 𝕄 :=
  iprop(G' m c ∗ cred (tallyAt (barCell c) () 2)
    ∗ ((bigSep Finset.univ fun s => cred (tallyAt (dcell c (false, true, s)) () N)) ∗ (bigSep Finset.univ fun s => cred (tallyAt (dcell c (true, true, s)) () N)))
    ∗ levAts L lv)

/-- The kernel's own buffers at any contents. -/
def scratch (c : Dev nD) : sProp 𝕄 :=
  iprop(bufAny (F := F) c cc0_scratch0 ∗ bufAny (F := F) c cc0_scratch1 ∗ bufAny (F := F) c cc0_scratch2 ∗ bufAny (F := F) c cc0_scratch3)

/-- What the device holds before its run, besides the staged buffers. -/
def Φ₀ (c : Dev nD) : sProp 𝕄 := iprop(start m c ∗ scratch c)
/-- And after: every cell is closed, its counter at zero. -/
def Φ₁ (c : Dev nD) : sProp 𝕄 :=
  iprop(scratch (F := F) c ∗ semVal (barCell c) 0 ∗ bigSep Finset.univ fun j : J => semVal (dcell c j) 0)

/-- The run's data: what every window's buffer holds after the body, what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rstg m c
    | ⟨2, _⟩ => istg m c
    | ⟨3, _⟩ => estg m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- A whole buffer at contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged buffer `b` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_eq (c : Dev nD) (b : Ref sig .tc) (X : b.ty.Contents (Elt F)) : stg (F := F) c b X ⊢ bufAt c b X := by
  iintro ⟨%f, %hf, H⟩
  subst hf
  iexact H
omit [FloatOps F] in
theorem stg_intro (c : Dev nD) (b : Ref sig .tc) (X : b.ty.Contents (Elt F)) : bufAt (F := F) c b X ⊢ stg c b X := by
  iintro H
  iexists X
  isplitr
  · ipureintro; rfl
  · iexact H

/-! ## The body -/

omit [FloatOps F] in
/-- Positions, tokens and credit are every turn's resources. -/
theorem dirRes_intro (c : Dev nD) :
    iprop(linear c ∗ cred (tallyAt (barCell c) () 2)
      ∗ ((bigSep Finset.univ fun s => cred (tallyAt (dcell c (false, true, s)) () N)) ∗ (bigSep Finset.univ fun s => cred (tallyAt (dcell c (true, true, s)) () N))))
    ⊢ iprop((dutyTok ER (barCell (prv c)) 0 false ∗ dutyTok ER (barCell (nxt c)) 0 true ∗ atPos ER (barCell c) 0 ∅ 0 ∗ cred (tallyAt (barCell c) () 2))
      ∗ bigSep Finset.univ fun s : Fin 7 => iprop(dirRes (F := F) c false s ∗ dirRes (F := F) c true s)) := by
  unfold linear payToks dirRes
  rw [bigSep_I, bigSep_J]
  simp only [bigSep_sep']
  iintro ⟨⟨⟨HaB, ⟨HaS, HaV⟩, HbS, HbV⟩, ⟨HtL, HtR⟩, ⟨HsS, HsV⟩, HuS, HuV⟩, Hc, HcF, HcT⟩
  isplitl [HtL HtR HaB Hc]
  · isplitl [HtL]; · iexact HtL
    isplitl [HtR]; · iexact HtR
    isplitl [HaB]; · iexact HaB
    iexact Hc
  isplitl [HsS HsV HaS HaV HcF]
  · isplitl [HsS]; · iexact HsS
    isplitl [HsV]; · iexact HsV
    isplitl [HaS]; · iexact HaS
    isplitl [HaV]; · iexact HaV
    iexact HcF
  · isplitl [HuS]; · iexact HuS
    isplitl [HuV]; · iexact HuV
    isplitl [HbS]; · iexact HbS
    isplitl [HbV]; · iexact HbV
    iexact HcT

omit [FloatOps F] in
/-- Every turn done, every transfer's end's counter is at zero. -/
theorem dirDone_elim (c : Dev nD) :
    (bigSep Finset.univ fun s : Fin 7 => iprop(dirDone (F := F) c false s ∗ dirDone (F := F) c true s))
      ⊢ bigSep Finset.univ fun j : J => (semVal (dcell c j) 0 : sProp 𝕄) := by
  unfold dirDone
  rw [bigSep_J]
  simp only [bigSep_sep']
  exact BI.Entails.refl _

abbrev t₀ : Fin cfg0.N := t0_0

/-- What the pipeline hands the body, -/
def bodyPre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
/-- and what it takes back. -/
def bodyPost (c : Dev nD) : sProp 𝕄 :=
  iprop(Φ₁ c ∗ (dats m ρ 0 c).owesAt () t₀.succ ∗ stg c cc0_stg0_0 (xstg m c) ∗ stg c cc0_stg1_0 (rstg m c)
    ∗ stg c cc0_stg2_0 (istg m c) ∗ stg c cc0_stg3_0 (estg m c) ∗ stg c cc0_stg4_0 (outAt m c))

theorem before_0 (c : Dev nD) (d) : (dats m ρ 0 c).before (0 : Fin 5) t₀ d = xstg m c := by
  unfold Dat.before; rw [if_pos (fetch0_0 t₀)]; rfl
theorem before_1 (c : Dev nD) (d) : (dats m ρ 0 c).before (1 : Fin 5) t₀ d = rstg m c := by
  unfold Dat.before; rw [if_pos (fetch0_1 t₀)]; rfl
theorem before_2 (c : Dev nD) (d) : (dats m ρ 0 c).before (2 : Fin 5) t₀ d = istg m c := by
  unfold Dat.before; rw [if_pos (fetch0_2 t₀)]; rfl
theorem before_3 (c : Dev nD) (d) : (dats m ρ 0 c).before (3 : Fin 5) t₀ d = estg m c := by
  unfold Dat.before; rw [if_pos (fetch0_3 t₀)]; rfl

/-- The staged buffers, as the pipeline hands them over, hold the arguments' blocks. -/
theorem staged_in (c : Dev nD) :
    iprop((∃ d, stg c cc0_stg0_0 ((dats m ρ 0 c).before (0 : Fin 5) t₀ d))
      ∗ (∃ d, stg c cc0_stg1_0 ((dats m ρ 0 c).before (1 : Fin 5) t₀ d))
      ∗ (∃ d, stg c cc0_stg2_0 ((dats m ρ 0 c).before (2 : Fin 5) t₀ d))
      ∗ (∃ d, stg c cc0_stg3_0 ((dats m ρ 0 c).before (3 : Fin 5) t₀ d))
      ∗ (∃ d, stg c cc0_stg4_0 ((dats m ρ 0 c).before (4 : Fin 5) t₀ d)))
    ⊢ iprop(inputs m c ∗ bufAny (F := F) c cc0_stg4_0) := by
  unfold inputs
  iintro ⟨⟨%d0, H0⟩, ⟨%d1, H1⟩, ⟨%d2, H2⟩, ⟨%d3, H3⟩, ⟨%d4, H4⟩⟩
  rw [before_0, before_1, before_2, before_3]
  isplitr [H4]
  · isplitl [H0]; · iapply (stg_eq (F := F) c cc0_stg0_0 _); iexact H0
    isplitl [H1]; · iapply (stg_eq (F := F) c cc0_stg1_0 _); iexact H1
    isplitl [H2]; · iapply (stg_eq (F := F) c cc0_stg2_0 _); iexact H2
    iapply (stg_eq (F := F) c cc0_stg3_0 _); iexact H3
  · iexists _
    iapply (stg_eq (F := F) c cc0_stg4_0 _); iexact H4

/-- What the run ends with is what the pipeline takes back. -/
theorem body_exit (c : Dev nD) : bodyEnd m c ⊢ bodyPost m ρ c := by
  unfold bodyEnd bodyPost Φ₁ scratch inputs owesE Dat.owesAt Pipeline.owesWithin
  rw [show (dats m ρ 0 c).owed t₀.succ = 0 from rfl]
  iintro ⟨⟨%W, HO⟩, ⟨Hx, Hr, Hi, He⟩, Hout, Hs, Hz, HD⟩
  ihave HD := (dirDone_elim (F := F) c) $$ HD
  isplitl [Hs Hz HD]
  · isplitl [Hs]; · iexact Hs
    isplitl [Hz]; · iexact Hz
    iexact HD
  isplitl [HO]
  · iexists W
    isplitr
    · ipureintro; exact fun _ _ => Or.inl trivial
    · iexact HO
  isplitl [Hx]; · iapply (stg_intro (F := F) c cc0_stg0_0 _); iexact Hx
  isplitl [Hr]; · iapply (stg_intro (F := F) c cc0_stg1_0 _); iexact Hr
  isplitl [Hi]; · iapply (stg_intro (F := F) c cc0_stg2_0 _); iexact Hi
  isplitl [He]; · iapply (stg_intro (F := F) c cc0_stg3_0 _); iexact He
  iapply (stg_intro (F := F) c cc0_stg4_0 _); iexact Hout

/-- The body, from what it is handed to what it hands back. -/
theorem sound_body (c : Dev nD) : bodyPre m ρ c ⊢ Wp c (bodyP (F := F)) fun _ => bodyPost m ρ c := by
  refine BIBase.Entails.trans ?_ (wp_mono _ _ _ fun _ => body_exit m ρ c)
  unfold bodyPre Φ₀ start G' scratch Dat.owesAt Pipeline.owesWithin
  rw [show (dats m ρ 0 c).owed t₀.castSucc = O₀ c from rfl]
  iintro ⟨⟨⟨⟨%K, #HR, Hlin⟩, HcB, HcV, #HL⟩, Hs⟩, ⟨%W, %hW, HO⟩, Hst⟩
  ihave Hst := (staged_in m ρ c) $$ Hst
  icases Hst with ⟨Hin, Hout⟩
  ihave Hd := (dirRes_intro (F := F) c) $$ [Hlin HcB HcV]
  · isplitl [Hlin]; · iexact Hlin
    isplitl [HcB]; · iexact HcB
    iexact HcV
  icases Hd with ⟨Hb, Hd⟩
  iapply (wp_bodyP m K c)
  unfold bodyStart owesE
  isplitr; · iexact HR
  isplitr; · iexact HL
  isplitl [HO]; · iexists W; iexact HO
  isplitl [Hin]; · iexact Hin
  isplitl [Hout]; · iexact Hout
  isplitl [Hs]; · iexact Hs
  isplitl [Hb]; · iexact Hb
  iexact Hd

set_option maxRecDepth 40000 in
/-- The body does what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7) (fun _ => bodyPost m ρ c)
  rw [body_eq]
  exact sound_body m ρ c

/-! ## Dealing the start -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (_ | j) (_ | j') h
  · rfl
  · exact absurd h (by intro h; cases h)
  · exact absurd h (by intro h; cases h)
  · have : jsem j = jsem j' := by injection h
    rw [jsem_injective this]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Every device's cells. -/
def ringCells : Finset (GSem nD τ sig) := Finset.univ.map ⟨kcell, kcell_injective⟩

/-- Every duty: both of a barrier cell's, the one of every other cell. -/
abbrev tokOf (cj : Dev nD × (Bool ⊕ J)) : GSem nD τ sig × ℕ × Bool := match cj.2 with
  | .inl b => (barCell cj.1, 0, b)
  | .inr j => (dcell cj.1 j, 0, false)

theorem tokOf_injective : Function.Injective tokOf := by
  rintro ⟨c, b | j⟩ ⟨c', b' | j'⟩ h
  · have h1 : c = c' := congrArg (fun x : GSem nD τ sig × ℕ × Bool => x.1.1.1) h
    have h2 : b = b' := congrArg (fun x : GSem nD τ sig × ℕ × Bool => x.2.2) h
    rw [h1, h2]
  · have h2 := congrArg (fun x : GSem nD τ sig × ℕ × Bool => x.1.2) h
    exact absurd h2 (by intro h; cases h)
  · have h2 := congrArg (fun x : GSem nD τ sig × ℕ × Bool => x.1.2) h
    exact absurd h2 (by intro h; cases h)
  · have h1 : c = c' := congrArg (fun x : GSem nD τ sig × ℕ × Bool => x.1.1.1) h
    have h2 : (SemLoc.dma (jsem j) : SemLoc sig) = .dma (jsem j') := congrArg (fun x : GSem nD τ sig × ℕ × Bool => x.1.2) h
    have h3 : jsem j = jsem j' := by injection h2
    rw [h1, jsem_injective h3]

/-- All duties' tokens. -/
def ringToks : Finset (GSem nD τ sig × ℕ × Bool) := Finset.univ.map ⟨tokOf, tokOf_injective⟩

/-- What the program starts from: the pipeline's part and the ring's. -/
def u₀ : UU :=
  (initOf (Pipeline.cells cfgs cellOf_inj) (Pipeline.launchToks cfgs cellOf_inj), initOf ringCells ringToks)

/-- The tokens of the duties of device `c`'s own cells. -/
def toks (c : Dev nD) : sProp 𝕄 :=
  iprop((dutyTok ER (barCell c) 0 false ∗ dutyTok ER (barCell c) 0 true) ∗ bigSep Finset.univ fun j : J => dutyTok ER (dcell c j) 0 false)

/-- What the start deals device `c`. -/
def G (c : Dev nD) : sProp 𝕄 :=
  iprop((bigSep Finset.univ fun k : I => roundState ER (ringRd m) (kcell (c, k)) 0)
    ∗ (bigSep Finset.univ fun k : I => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : I => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, bigSep_bool]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : J => semVal (dcell c j) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : I => semVal (kcell (c, k)) 0 : sProp 𝕄) := by
  rw [ownSems0_eq, unscopedSems0_eq, bigSep_I]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : I => semVal (kcell (c, k)) 0) ∗ bigSep Finset.univ fun k : I => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt around the ring, each to the device that pays its duty. -/
theorem toks_around : (bigSep Finset.univ fun c : Dev nD => (toks c : sProp 𝕄)) ⊢ bigSep Finset.univ fun c : Dev nD => payToks c := by
  unfold toks payToks
  simp only [bigSep_J]
  simp only [bigSep_sep']
  rw [bigSep_univ_equiv ring.symm (fun c : Dev nD => (dutyTok ER (barCell c) 0 false : sProp 𝕄)),
    bigSep_univ_equiv ring (fun c : Dev nD => (dutyTok ER (barCell c) 0 true : sProp 𝕄)),
    bigSep_univ_equiv (destEquiv false) (fun c : Dev nD => (bigSep Finset.univ fun s : Fin 7 => dutyTok ER (dcell c (false, true, s)) 0 false : sProp 𝕄)),
    bigSep_univ_equiv (destEquiv true) (fun c : Dev nD => (bigSep Finset.univ fun s : Fin 7 => dutyTok ER (dcell c (true, true, s)) 0 false : sProp 𝕄))]
  exact BI.Entails.refl _

omit [FloatOps F] in
theorem bigSep_with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × I → ℕ) (c : Dev nD) : iprop(records m K ∗ linear c) ⊢ G' m c := by
  unfold G'
  iintro H
  iexists K
  iexact H

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × I => iprop(∃ κ : ℕ, cellInv ER (ringRd m) κ (kcell ck))),
    bigSep_congr (s := Finset.univ) (fun (c : Dev nD) _ => bigSep_sep' Finset.univ (fun k : I => (atPos ER (kcell (c, k)) 0 ∅ 0 : sProp 𝕄)) (fun k => reached ER (kcell (c, k)) 0)),
    bigSep_sep', ← bigSep_univ_prod (fun ck : Dev nD × I => (reached ER (kcell ck) 0 : sProp 𝕄))]
  iintro ⟨HI, ⟨Hat, #HR⟩, Htok⟩
  ihave HK := (BI.bigSep_exists_pi Finset.univ (fun (ck : Dev nD × I) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · unfold linear
    iapply (Entails.of_eq (bigSep_sep' Finset.univ (fun c : Dev nD => bigSep Finset.univ fun k : I => (atPos ER (kcell (c, k)) 0 ∅ 0 : sProp 𝕄)) payToks).symm)
    isplitl [Hat]; · iexact Hat
    iexact Htk

/-- Every device's semaphores at once become the schedule's cells, known to all, and every device's part of the rest. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What everyone is owed -/

theorem bar_eq_iff {a b : Dev nD} : Iff (barCell a = barCell b) (a = b) :=
  ⟨fun h => Fin.ext (congrArg (fun g : GSem nD τ sig => g.1.1.val) h), fun h => h ▸ rfl⟩
theorem dcell_eq_iff {a b : Dev nD} {i j : J} : Iff (dcell a i = dcell b j) (a = b ∧ i = j) := by
  constructor
  · intro h
    have h1 : a = b := Fin.ext (congrArg (fun g : GSem nD τ sig => g.1.1.val) h)
    have h2 : (SemLoc.dma (jsem i) : SemLoc sig) = .dma (jsem j) := congrArg Prod.snd h
    have h3 : jsem i = jsem j := by injection h2
    exact ⟨h1, jsem_injective h3⟩
  · rintro ⟨rfl, rfl⟩; rfl
theorem bar_ne_dcell (a b : Dev nD) (j : J) : barCell a ≠ dcell b j := by
  intro h
  have h2 := congrArg Prod.snd h
  cases h2

theorem owedFrom_bar (d c : Dev nD) : owedFrom d 0 (barCell c) () = 0 := by
  by_contra h
  obtain ⟨e, t, -, h⟩ := owedFrom_pos d 0 (Nat.pos_of_ne_zero h)
  exact bar_ne_dcell _ _ _ h

/-- What device `d` owes device `c`'s barrier cell: a unit if it is a neighbour, for each side it is one on. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedFrom_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owedXfer_at (d c : Dev nD) (e e' : Bool) (t t' : Fin 7) :
    owedXfer d e' t' (dcell c (e, true, t)) () = if d = origin e c ∧ e' = e ∧ t' = t then N else 0 := by
  unfold owedXfer
  rw [tallyAt_apply]
  by_cases h : d = origin e c ∧ e' = e ∧ t' = t
  · obtain ⟨rfl, rfl, rfl⟩ := h
    rw [dest_origin, if_pos ⟨rfl, rfl⟩, if_pos ⟨rfl, rfl, rfl⟩]
  · rw [if_neg h, if_neg]
    rintro ⟨h1, -⟩
    obtain ⟨h2, h3⟩ := dcell_eq_iff.mp h1
    injection h3 with h4 h5
    injection h5 with h6 h7
    exact h ⟨by rw [h2, h4, origin_dest], h4.symm, h7.symm⟩

theorem owedLast_at (d c : Dev nD) (e : Bool) (t : Fin 7) (n : ℕ) (hn : n ≤ 7) :
    owedLast d n (dcell c (e, true, t)) () = if d = origin e c ∧ 7 ≤ t.val + n then N else 0 := by
  induction n with
  | zero => exact (if_neg fun h => by have := t.isLt; omega).symm
  | succ n ih =>
    show ((owedLast d n + owedXfer d true ⟨6 - n, _⟩) + owedXfer d false ⟨6 - n, _⟩) (dcell c (e, true, t)) () = _
    rw [Pi.add_apply, Finsupp.add_apply, Pi.add_apply, Finsupp.add_apply, ih (by omega), owedXfer_at, owedXfer_at]
    have ht : ((⟨6 - n, by omega⟩ : Fin 7) = t) = (6 - n = t.val) := propext Fin.ext_iff
    have ht' := t.isLt
    simp only [ht]
    by_cases hd : d = origin e c
    · cases e <;> simp only [hd, true_and, Bool.false_eq_true, Bool.true_eq_false, false_and, if_false, reduceCtorEq] <;> split_ifs <;> omega
    · rw [if_neg fun h => hd h.1, if_neg fun h => hd h.1, if_neg fun h => hd h.1, if_neg fun h => hd h.1]

/-- What device `d` owes device `c`'s receive cell: the slot's bytes, if its transfers in that direction go to `c`. -/
theorem owed_recv (d c : Dev nD) (e : Bool) (t : Fin 7) : O₀ d (dcell c (e, true, t)) () = if d = origin e c then N else 0 := by
  unfold O₀ O₁
  rw [Pi.add_apply, Finsupp.add_apply, Pi.add_apply, Finsupp.add_apply, tallyAt_apply, tallyAt_apply,
    if_neg (fun h => bar_ne_dcell (nxt d) c (e, true, t) h.1.symm), if_neg (fun h => bar_ne_dcell (prv d) c (e, true, t) h.1.symm), Nat.add_zero]
  rw [show owedFrom d 0 = owedLast d 7 from rfl, owedLast_at d c e t 7 (Nat.le_refl 7)]
  by_cases h : d = origin e c
  · rw [if_pos ⟨h, by omega⟩, if_pos h]
  · rw [if_neg fun h' => h h'.1, if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) (e : Bool) (t : Fin 7) :
    tallyOn (dcell c (e, true, t)) (launchCredit (Pipeline.owing O₀) 0 (dcell c (e, true, t))) = (tallyAt (dcell c (e, true, t)) () N : CellTallies nD τ sig Unit) := by
  unfold tallyAt; refine congrArg _ (Finsupp.ext fun u => ?_); cases u
  rw [Pipeline.launchCredit_owing, Finsupp.single_eq_same, Finset.sum_congr rfl fun d _ => owed_recv d c e t, Finset.sum_ite_eq' Finset.univ (origin e c) fun _ => N,
    if_pos (Finset.mem_univ _)]

/-- The receiving ends' semaphores. -/
def recvLoc (p : Bool × Fin 7) : SemLoc sig := .dma (jsem (p.1, true, p.2))
theorem recvLoc_injective : Function.Injective recvLoc := by
  rintro ⟨e, t⟩ ⟨e', t'⟩ h
  have h3 : jsem (e, true, t) = jsem (e', true, t') := by unfold recvLoc at h; injection h
  have h4 := jsem_injective h3
  injection h4 with h5 h6
  injection h6 with h7 h8
  rw [h5, h8]

omit [FloatOps F] in
/-- The credit for what device `c` is owed. -/
theorem creds (c : Dev nD) :
    (Pipeline.launchCred O₀ c : sProp 𝕄) ⊢ iprop(cred (tallyAt (barCell c) () 2)
      ∗ ((bigSep Finset.univ fun s => cred (tallyAt (dcell c (false, true, s)) () N)) ∗ (bigSep Finset.univ fun s => cred (tallyAt (dcell c (true, true, s)) () N)))) := by
  unfold Pipeline.launchCred
  rw [bigSep_univ_at _ (SemLoc.reg barS), launch_bar]
  refine sep_mono_right ?_
  refine BIBase.Entails.trans (BI.bigSep_subset (t := Finset.univ.map ⟨recvLoc, recvLoc_injective⟩) ?_) ?_
  · intro x hx
    obtain ⟨p, -, rfl⟩ := Finset.mem_map.mp hx
    exact Finset.mem_erase.mpr ⟨fun h => absurd h (by unfold recvLoc; exact nofun), Finset.mem_univ _⟩
  · rw [bigSep_map, bigSep_univ_prod, bigSep_bool]
    refine Entails.of_eq (congrArg₂ _ (bigSep_congr fun s _ => ?_) (bigSep_congr fun s _ => ?_))
    · exact congrArg _ (launch_recv c false s)
    · exact congrArg _ (launch_recv c true s)

/-! ## The program's run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What every array ends at. -/
def finalA (c : Dev nD) (w : Fin cfg0.W) : Buf (Elt F) ((cfg0.win w).arr.view.loc (c : Thread nD τ)) := (dats m ρ 0 c).arrAt w cfg0.N

set_option maxRecDepth 8000 in
/-- From any contents with every counter at zero, the program ends, every array at its final contents, every counter at
    zero again. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began, -/
theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

/-- and the result is `outAt`. -/
theorem finalA_4 (c : Dev nD) : finalA m ρ c (4 : Fin 5) = outAt m c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from flush0_4 (0 : Fin 1), if_pos rfl]
  exact Memref.write_access_unit_zero_univ (Elt F) main_v1 (funext fun a => by fin_cases a <;> rfl) _ _ _

end Cert.Moe

end
-- ==== Proof.Frames.lean ====
/-
The frames: every program ends, its arguments unchanged, every counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 100000

noncomputable section

namespace Cert.Moe

open Cert.KernelIdeal Cert.KernelIdeal.Gen
open Idealize.ShloMosaic Idealize.ShloMosaic.TcCoe Idealize.SL Idealize.SL.Sem

variable {F : FTy → Type} [FloatOps F]

/-- The kernel's run, read at its result and its arguments. -/
theorem run_values (m : (ℓ : Loc nD τ sig) → Buf (Elt F) ℓ) (ρ : Dev nD → PrngReg) :
    θ_run defs (onTc (τ := τ) (main (F := F))) (s₀ m ρ) (fun r => (∀ c : Dev nD,
        r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0) :=
  (θ_run defs _ _).mono (fun _ h => ⟨fun c => ⟨(h.1 c (4 : Fin 5)).trans (finalA_4 m ρ c),
    (h.1 c (0 : Fin 5)).trans (finalA_0 m ρ c), (h.1 c (1 : Fin 5)).trans (finalA_1 m ρ c),
    (h.1 c (2 : Fin 5)).trans (finalA_2 m ρ c), (h.1 c (3 : Fin 5)).trans (finalA_3 m ρ c)⟩, h.2⟩) (run_main m ρ)

/-- The kernel and the idealized kernel are one text: their bodies are, -/
theorem defs₀_eq : (Cert.Kernel.defs₀ (F := Bits)) = (Cert.KernelIdeal.defs₀ (F := Bits)) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- and so their calls. -/
theorem defs_eq : (Cert.Kernel.defs (F := Bits)) = (Cert.KernelIdeal.defs (F := Bits)) := by
  unfold Cert.Kernel.defs Cert.KernelIdeal.defs
  rw [defs₀_eq]
  rfl

/-- The kernel's frame, -/
theorem frame_kernel : Cert.quiescent_Kernel := by
  intro m ρ _
  rw [defs_eq]
  exact (θ_run Cert.KernelIdeal.defs _ _).mono (fun _ h => ⟨fun c => (h.1 c).2, h.2⟩) (run_values (F := Bits) m ρ)

/-- the idealized kernel's, -/
theorem frame_kernelIdeal : Cert.quiescent_KernelIdeal := fun m ρ _ =>
  (θ_run Cert.KernelIdeal.defs _ _).mono (fun _ h => ⟨fun c => (h.1 c).2, h.2⟩) (run_values (F := Ideal) m ρ)

/-- and the reference's. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Algebra.lean ====
/-
  The extended-real arithmetic that the two programs' values meet in. A factor that is a positive real, or zero, goes in and out
  of sums of any extended reals; a token's weighed contributions over all experts are those of its two choices; sums over the
  devices and their experts are sums over the experts; the softmax of finite scores is positive.
-/
module

public import Idealize.ShloMosaic.PureOps.Ideal

@[expose] public section

noncomputable section

namespace Cert.Moe

open Idealize.ShloMosaic
open scoped BigOperators

/-! ## Real and positive real values -/

/-- The value is a real number. -/
def IsReal (a : EReal) : Prop := ∃ r : ℝ, a = (r : EReal)

/-- The value is a positive real number. -/
def IsPos (a : EReal) : Prop := ∃ r : ℝ, 0 < r ∧ a = (r : EReal)

/-- A positive real is not negative. -/
theorem IsPos.nonneg {a : EReal} (h : IsPos a) : 0 ≤ a := by
  obtain ⟨r, hr, rfl⟩ := h
  exact EReal.coe_nonneg.2 hr.le

/-- A positive real is not the greatest value. -/
theorem IsPos.ne_top {a : EReal} (h : IsPos a) : a ≠ ⊤ := by
  obtain ⟨r, _, rfl⟩ := h
  exact EReal.coe_ne_top r

/-- A value whose magnitude lies below the greatest value is a real. -/
theorem isReal_of_abs_lt {a : EReal} (h : max a (-a) < ⊤) : IsReal a := by
  obtain ⟨h1, h2⟩ := max_lt_iff.1 h
  refine ⟨a.toReal, (EReal.coe_toReal (ne_of_lt h1) ?_).symm⟩
  rintro rfl
  exact absurd h2 (by simp)

/-- A product of reals is a real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A sum of reals is a real. -/
theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih =>
    obtain ⟨r, hr⟩ := h i
    obtain ⟨t, ht⟩ := ih
    exact ⟨r + t, by rw [Finset.sum_insert hi, hr, ht, EReal.coe_add]⟩

/-- The greatest of finitely many reals, taken from below all values, is a real or, of none, the least value. -/
theorem fold_max_real {ι : Type} (s : Finset ι) (f : ι → EReal) (h : ∀ i, IsReal (f i)) :
    (s.fold max ⊥ f = ⊥ ∧ s = ∅) ∨ IsReal (s.fold max ⊥ f) := by
  classical
  induction s using Finset.induction_on with
  | empty => exact .inl ⟨by simp, rfl⟩
  | insert i s hi ih =>
    right
    rw [Finset.fold_insert hi]
    rcases ih with ⟨e, _⟩ | e
    · rw [e, max_eq_left bot_le]; exact h i
    · rcases max_choice (f i) (s.fold max ⊥ f) with e' | e' <;> rw [e']
      exacts [h i, e]

/-- The greatest of a nonempty family of reals is a real. -/
theorem IsReal.fold_max {n : ℕ} (f : Fin (n + 1) → EReal) (h : ∀ i, IsReal (f i)) : IsReal (Finset.univ.fold max ⊥ f) := by
  rcases fold_max_real Finset.univ f h with ⟨_, e⟩ | e
  · exact absurd (e ▸ Finset.mem_univ (0 : Fin (n + 1))) (by simp)
  · exact e

/-- The exponential of a difference of reals is positive. -/
theorem IsPos.exp_sub {a b : EReal} (ha : IsReal a) (hb : IsReal b) : IsPos (Ideal.exp (a - b)) := by
  obtain ⟨r, rfl⟩ := ha
  obtain ⟨s, rfl⟩ := hb
  exact ⟨Real.exp (r - s), Real.exp_pos _, by rw [← EReal.coe_sub]; rfl⟩

/-- A sum of two positive reals is positive. -/
theorem IsPos.add {a b : EReal} (ha : IsPos a) (hb : IsPos b) : IsPos (a + b) := by
  obtain ⟨r, hr, rfl⟩ := ha
  obtain ⟨s, hs, rfl⟩ := hb
  exact ⟨r + s, by positivity, (EReal.coe_add r s).symm⟩

/-- A sum of a nonempty family of positive reals is positive. -/
theorem IsPos.sum : ∀ {n : ℕ} (f : Fin (n + 1) → EReal), (∀ i, IsPos (f i)) → IsPos (∑ i, f i)
  | 0, f, h => by rw [Fin.sum_univ_one]; exact h 0
  | n + 1, f, h => by rw [Fin.sum_univ_succ]; exact (h 0).add (IsPos.sum _ fun i => h i.succ)

/-- A quotient of positive reals is positive. -/
theorem IsPos.div {a b : EReal} (ha : IsPos a) (hb : IsPos b) : IsPos (Ideal.div a b) := by
  obtain ⟨r, hr, rfl⟩ := ha
  obtain ⟨s, hs, rfl⟩ := hb
  have hs0 : (s : EReal) ≠ 0 := by exact_mod_cast hs.ne'
  exact ⟨r * s⁻¹, by positivity, by rw [Ideal.div, if_neg hs0, ← EReal.coe_inv, EReal.coe_mul]⟩

/-! ## Factors and sums -/

/-- Multiplication by a value that is neither negative nor the greatest commutes with sums. -/
theorem mul_sum_of_nonneg {ι : Type} (c : EReal) (h0 : 0 ≤ c) (ht : c ≠ ⊤) (s : Finset ι) (f : ι → EReal) :
    c * ∑ i ∈ s, f i = ∑ i ∈ s, c * f i := by
  classical
  induction s using Finset.induction_on with
  | empty => simp
  | insert i s hi ih =>
    rw [Finset.sum_insert hi, Finset.sum_insert hi, EReal.left_distrib_of_nonneg_of_ne_top h0 ht, ih]

/-- A token weighed before the product with a weight matrix is the product weighed. -/
theorem weighed_product {n : ℕ} (c : EReal) (h0 : 0 ≤ c) (ht : c ≠ ⊤) (x w : Fin n → EReal) :
    ∑ k, x k * c * w k = c * ∑ k, x k * w k := by
  rw [mul_sum_of_nonneg c h0 ht]
  refine Finset.sum_congr rfl fun k _ => ?_
  rw [mul_comm (x k) c, mul_assoc]

/-- What expert `e` is weighed with: the gate of each choice that names it. -/
def weightOf {n : ℕ} (e0 e1 : Fin n) (w0 w1 : EReal) (e : Fin n) : EReal :=
  (if e = e0 then w0 else 0) + (if e = e1 then w1 else 0)

/-- It is not negative. -/
theorem weightOf_nonneg {n : ℕ} (e0 e1 e : Fin n) {w0 w1 : EReal} (h0 : IsPos w0) (h1 : IsPos w1) : 0 ≤ weightOf e0 e1 w0 w1 e := by
  unfold weightOf
  refine add_nonneg ?_ ?_ <;> split
  exacts [h0.nonneg, le_rfl, h1.nonneg, le_rfl]

/-- It is not the greatest value. -/
theorem weightOf_ne_top {n : ℕ} (e0 e1 e : Fin n) {w0 w1 : EReal} (h0 : IsPos w0) (h1 : IsPos w1) : weightOf e0 e1 w0 w1 e ≠ ⊤ := by
  unfold weightOf
  refine EReal.add_ne_top ?_ ?_ <;> split
  exacts [h0.ne_top, EReal.zero_ne_top, h1.ne_top, EReal.zero_ne_top]

/-- Summed over all experts, what a token receives is what its two choices give. -/
theorem sum_weightOf {n : ℕ} (e0 e1 : Fin n) {w0 w1 : EReal} (h0 : IsPos w0) (h1 : IsPos w1) (y : Fin n → EReal) :
    ∑ e, weightOf e0 e1 w0 w1 e * y e = w0 * y e0 + w1 * y e1 := by
  have hterm : ∀ e, weightOf e0 e1 w0 w1 e * y e = (if e = e0 then w0 * y e else 0) + (if e = e1 then w1 * y e else 0) := by
    intro e
    have hx : 0 ≤ (if e = e0 then w0 else 0) := by split; exacts [h0.nonneg, le_rfl]
    have hy : 0 ≤ (if e = e1 then w1 else 0) := by split; exacts [h1.nonneg, le_rfl]
    unfold weightOf
    rw [EReal.right_distrib_of_nonneg hx hy, ite_mul, ite_mul, zero_mul]
  rw [Finset.sum_congr rfl fun e _ => hterm e, Finset.sum_add_distrib, Finset.sum_ite_eq', Finset.sum_ite_eq',
    if_pos (Finset.mem_univ _), if_pos (Finset.mem_univ _)]

/-! ## Devices, their experts, and the ring -/

/-- Expert `j` of device `d`, among all of them. -/
def expertOf (d : Fin 8) (j : Fin 4) : Fin 32 := ⟨4 * d.val + j.val, by have := d.isLt; have := j.isLt; omega⟩

/-- A sum over the devices of sums over their experts is the sum over all experts. -/
theorem sum_devices (t : Fin 32 → EReal) : ∑ d : Fin 8, ∑ j : Fin 4, t (expertOf d j) = ∑ e, t e := by
  rw [← Fintype.sum_prod_type' (f := fun d j => t (expertOf d j)), ← Equiv.sum_comp (finProdFinEquiv : Fin 8 × Fin 4 ≃ Fin (8 * 4))]
  refine Finset.sum_congr rfl fun p _ => congrArg t (Fin.ext ?_)
  show 4 * p.1.val + p.2.val = p.2.val + 4 * p.1.val
  omega

end Cert.Moe

end
-- ==== Proof.Softmax.lean ====
/-
  The router's probabilities, as the kernel computes them, read at a token and an expert.
-/
module

public import proofs.«01_k».proof.Proof.Values
public import proofs.«01_k».proof.Proof.Algebra
public import Idealize.ShloMosaic.Lib.Pointwise
public import Idealize.ShloMosaic.Lib.IdealHost

@[expose] public section

noncomputable section

namespace Cert.Moe

open Cert.KernelIdeal Cert.KernelIdeal.Gen
open Idealize.ShloMosaic
open scoped BigOperators

/-- A token's score for an expert. -/
def score (x : FVec Ideal S2048x512 .f32) (r : FVec Ideal S512x32 .f32) (t : Fin 2048) (e : Fin 32) : EReal :=
  ∑ k : Fin 512, x (ix2 t k) * r (ix2 k e)

/-- The token's best score. -/
def best (x : FVec Ideal S2048x512 .f32) (r : FVec Ideal S512x32 .f32) (t : Fin 2048) : EReal :=
  Finset.univ.fold max ⊥ fun e : Fin 32 => score x r t e

/-- The exponential of a score's distance to the best one. -/
def expo (x : FVec Ideal S2048x512 .f32) (r : FVec Ideal S512x32 .f32) (t : Fin 2048) (e : Fin 32) : EReal :=
  Ideal.exp (score x r t e - best x r t)

/-- The token's probability of the expert. -/
def prob (x : FVec Ideal S2048x512 .f32) (r : FVec Ideal S512x32 .f32) (t : Fin 2048) (e : Fin 32) : EReal :=
  Ideal.div (expo x r t e) (∑ e' : Fin 32, expo x r t e')

/-- The pattern of minus infinity is the least value. -/
theorem ofBits_bot : Ideal.ofBits .f32 0xFF800000#32 = ⊥ := by simp [Ideal.ofBits, Ideal.ieee]

/-- The kernel's probabilities. -/
theorem pay3_apply (x : FVec Ideal S2048x512 .f32) (r : FVec Ideal S512x32 .f32) (t : Fin 2048) (e : Fin 32) :
    k0_pay3 (F := Ideal) x r (ix2 t e) = prob x r t e := by
  pointwise [k0_pay3, prob, expo, best, score]
  rw [ofBits_bot]

/-- A selection on equality of words. -/
theorem select_cmpi_eq {α : Type} (a b : BitVec 32) (u v : α) : Scalar.select (IntOp.cmpi .eq a b) u v = if a = b then u else v := by
  unfold Scalar.select IntOp.cmpi
  by_cases h : a = b
  · simp [h]
  · simp [h, beq_eq_false_iff_ne.2 h]

/-- The first choice's probability, picked by a sum over the experts. -/
theorem pay4_apply (x : FVec Ideal S2048x512 .f32) (r : FVec Ideal S512x32 .f32) (w : IVec S2048x1 32) (t : Fin 2048) :
    k0_pay4 (F := Ideal) x r w (ix2 t 0) = ∑ e : Fin 32, if BitVec.ofNat 32 e.val = w (ix2 t 0) then prob x r t e else 0 := by
  pointwise [k0_pay4, pay3_apply]
  simp only [select_cmpi_eq]

/-- The second choice's. -/
theorem pay6_apply (x : FVec Ideal S2048x512 .f32) (r : FVec Ideal S512x32 .f32) (w : IVec S2048x1 32) (t : Fin 2048) :
    k0_pay6 (F := Ideal) (k0_pay5 (F := Ideal) x r w) (ix2 t 0) = ∑ e : Fin 32, if BitVec.ofNat 32 e.val = w (ix2 t 0) then prob x r t e else 0 := by
  pointwise [k0_pay6, k0_pay5, pay3_apply]
  simp only [select_cmpi_eq]

/-- A sum over the experts that keeps the one a word names. -/
theorem sum_named (w : BitVec 32) (e₀ : Fin 32) (h : w = BitVec.ofNat 32 e₀.val) (y : Fin 32 → EReal) :
    (∑ e : Fin 32, if BitVec.ofNat 32 e.val = w then y e else 0) = y e₀ := by
  subst h
  have hiff : ∀ e : Fin 32, (BitVec.ofNat 32 e.val = BitVec.ofNat 32 e₀.val) ↔ e = e₀ := by
    intro e
    constructor
    · intro h
      have h' := congrArg BitVec.toNat h
      simp only [BitVec.toNat_ofNat] at h'
      have := e.isLt
      have := e₀.isLt
      exact Fin.ext (by omega)
    · rintro rfl; rfl
  simp only [hiff, Finset.sum_ite_eq', Finset.mem_univ, if_true]

/-- The gates of a token: each choice's probability over the two choices' together. -/
def gateOf (x : FVec Ideal S2048x512 .f32) (r : FVec Ideal S512x32 .f32) (t : Fin 2048) (e e0 e1 : Fin 32) : EReal :=
  Ideal.div (prob x r t e) (prob x r t e0 + prob x r t e1)

/-- The kernel's first gate. -/
theorem pay8_apply (x : FVec Ideal S2048x512 .f32) (r : FVec Ideal S512x32 .f32) (w0 w1 : IVec S2048x1 32) (t : Fin 2048)
    (e0 e1 : Fin 32) (h0 : w0 (ix2 t 0) = BitVec.ofNat 32 e0.val) (h1 : w1 (ix2 t 0) = BitVec.ofNat 32 e1.val) :
    k0_pay8 (F := Ideal) (k0_pay4 (F := Ideal) x r w0) (k0_pay5 (F := Ideal) x r w1) (ix2 t 0) = gateOf x r t e0 e0 e1 := by
  pointwise [k0_pay8, k0_pay7, pay4_apply, pay6_apply, gateOf]
  rw [sum_named _ e0 h0, sum_named _ e1 h1]

/-- The kernel's second gate. -/
theorem pay9_apply (x : FVec Ideal S2048x512 .f32) (r : FVec Ideal S512x32 .f32) (w0 w1 : IVec S2048x1 32) (t : Fin 2048)
    (e0 e1 : Fin 32) (h0 : w0 (ix2 t 0) = BitVec.ofNat 32 e0.val) (h1 : w1 (ix2 t 0) = BitVec.ofNat 32 e1.val) :
    k0_pay9 (F := Ideal) (k0_pay4 (F := Ideal) x r w0) (k0_pay5 (F := Ideal) x r w1) (ix2 t 0) = gateOf x r t e1 e0 e1 := by
  pointwise [k0_pay9, k0_pay7, pay4_apply, pay6_apply, gateOf]
  rw [sum_named _ e0 h0, sum_named _ e1 h1]

/-! ## Finite activations and a finite router give positive gates -/

/-- Finite inputs have finite scores. -/
theorem score_real {x : FVec Ideal S2048x512 .f32} {r : FVec Ideal S512x32 .f32} (hx : ∀ i, IsReal (x i)) (hr : ∀ i, IsReal (r i))
    (t : Fin 2048) (e : Fin 32) : IsReal (score x r t e) :=
  IsReal.sum _ _ fun k => (hx _).mul (hr _)

/-- Their exponentials are positive, -/
theorem expo_pos {x : FVec Ideal S2048x512 .f32} {r : FVec Ideal S512x32 .f32} (hx : ∀ i, IsReal (x i)) (hr : ∀ i, IsReal (r i))
    (t : Fin 2048) (e : Fin 32) : IsPos (expo x r t e) :=
  IsPos.exp_sub (score_real hx hr t e) (IsReal.fold_max _ (score_real hx hr t))

/-- and so are the probabilities, -/
theorem prob_pos {x : FVec Ideal S2048x512 .f32} {r : FVec Ideal S512x32 .f32} (hx : ∀ i, IsReal (x i)) (hr : ∀ i, IsReal (r i))
    (t : Fin 2048) (e : Fin 32) : IsPos (prob x r t e) :=
  (expo_pos hx hr t e).div (IsPos.sum _ (expo_pos hx hr t))

/-- and the gates. -/
theorem gateOf_pos {x : FVec Ideal S2048x512 .f32} {r : FVec Ideal S512x32 .f32} (hx : ∀ i, IsReal (x i)) (hr : ∀ i, IsReal (r i))
    (t : Fin 2048) (e e0 e1 : Fin 32) : IsPos (gateOf x r t e e0 e1) :=
  (prob_pos hx hr t e).div ((prob_pos hx hr t e0).add (prob_pos hx hr t e1))

end Cert.Moe

end
-- ==== Proof.Parts.lean ====
/-
  A device's result over the extended reals: at a token of its chunk and a column, the sum over all experts of the
  expert's product with the token, weighed by the gates of the choices that name it.
-/
module

public import proofs.«01_k».proof.Proof.Softmax

@[expose] public section

set_option maxRecDepth 40000

noncomputable section

namespace Cert.Moe

open Cert.KernelIdeal Cert.KernelIdeal.Gen
open Idealize.ShloMosaic Idealize.ShloMosaic.TcCoe
open Idealize.SL Idealize.SL.Sem
open scoped BigOperators

variable (m : (ℓ : Loc nD τ sig) → Buf (Elt Ideal) ℓ)

/-! ## What is staged is what the arguments hold -/

/-- The staged activations are the first argument. -/
theorem xstg_eq (c : Dev nD) : xstg m c = m ((c : Thread nD τ).loc main_arg0) := by
  unfold xstg
  exact Memref.read_access_unit_zero (Elt Ideal) main_arg0 (funext fun a => by fin_cases a <;> rfl) _ _

/-- The staged router is the second argument. -/
theorem rstg_eq (c : Dev nD) : rstg m c = m ((c : Thread nD τ).loc main_arg1) := by
  unfold rstg
  exact Memref.read_access_unit_zero (Elt Ideal) main_arg1 (funext fun a => by fin_cases a <;> rfl) _ _

/-- The staged routing table is the third argument. -/
theorem istg_eq (c : Dev nD) : istg m c = m ((c : Thread nD τ).loc main_arg2) := by
  unfold istg
  exact Memref.read_access_unit_zero (Elt Ideal) main_arg2 (funext fun a => by fin_cases a <;> rfl) _ _

/-- The staged weights are the fourth argument. -/
theorem estg_eq (c : Dev nD) : estg m c = m ((c : Thread nD τ).loc main_arg3) := by
  unfold estg
  exact Memref.read_access_unit_zero (Elt Ideal) main_arg3 (funext fun a => by fin_cases a <;> rfl) _ _

/-! ## What the rectangles hold -/

/-- The token a chunk's row is. -/
def tok (k : ℕ) (hk : k < 8) (r : Fin 256) : Fin 2048 := ⟨256 * k + r.val, by have := r.isLt; omega⟩

/-- The column of the result a column of a direction's half is. -/
def col (d : Bool) (f : Fin 512) : Fin 1024 := ⟨colOff d + f.val, by have := f.isLt; cases d <;> simp only [colOff, cond] <;> omega⟩

/-- A chunk's rows of the activations. -/
theorem rows_read (k : ℕ) (hk : k < 8) (v : FVec Ideal S2048x512 .f32) (r : Fin 256) (q : Fin 512) :
    xM.view.readAt (Elt Ideal) (rowsR k hk).toLoadRect v (ix2 r q) = v (ix2 (tok k hk r) q) := by
  rw [View.readAt_apply]
  refine congrArg v (funext fun a => Fin.ext ?_)
  fin_cases a
  · show 256 * k + 1 * r.val = 256 * k + r.val; omega
  · show 0 + 1 * q.val = q.val; omega

/-- A chunk's cells of a column of the routing table. -/
theorem icells_read (k : ℕ) (hk : k < 8) (j : ℕ) (hj : j < 2) (v : IVec S2048x2 32) (r : Fin 256) :
    iM.view.readAt (Elt Ideal) (cellsR k hk j hj).toLoadRect v (ix2 r 0) = v (ix2 (tok k hk r) ⟨j, hj⟩) := by
  rw [View.readAt_apply]
  refine congrArg v (funext fun a => Fin.ext ?_)
  fin_cases a
  · show 256 * k + 1 * r.val = 256 * k + r.val; omega
  · show j + 1 * 0 = j; omega

/-- A chunk's cells of a column of the gates. -/
theorem gcells_read (k : ℕ) (hk : k < 8) (j : ℕ) (hj : j < 2) (v : FVec Ideal S2048x2 .f32) (r : Fin 256) :
    gM.view.readAt (Elt Ideal) (cellsR k hk j hj).toLoadRect v (ix2 r 0) = v (ix2 (tok k hk r) ⟨j, hj⟩) := by
  rw [View.readAt_apply]
  refine congrArg v (funext fun a => Fin.ext ?_)
  fin_cases a
  · show 256 * k + 1 * r.val = 256 * k + r.val; omega
  · show j + 1 * 0 = j; omega

/-- A column of the routing table. -/
theorem icol_read (j : ℕ) (hj : j < 2) (v : IVec S2048x2 32) (t : Fin 2048) :
    iM.view.readAt (Elt Ideal) (colR j hj).toLoadRect v (ix2 t 0) = v (ix2 t ⟨j, hj⟩) := by
  rw [View.readAt_apply]
  refine congrArg v (funext fun a => Fin.ext ?_)
  fin_cases a
  · show 0 + 1 * t.val = t.val; omega
  · show j + 1 * 0 = j; omega

/-- One expert's weights on a direction's columns. -/
theorem weights_read (d : Bool) (j : ℕ) (hj : j < 4) (v : FVec Ideal S4x512x1024 .bf16) (q f : Fin 512) :
    wM.view.readAt (Elt Ideal) (weightsR d j hj).toLoadRect v (ix3 0 q f) = v (ix3 ⟨j, hj⟩ q (col d f)) := by
  rw [View.readAt_apply]
  refine congrArg v (funext fun a => Fin.ext ?_)
  fin_cases a
  · show j + 1 * 0 = j; omega
  · show 0 + 1 * q.val = q.val; omega
  · show colOff d + 1 * f.val = colOff d + f.val; omega

/-! ## One device's contribution -/

/-- One expert's contribution at a token of the chunk and a column. -/
theorem term_apply (e : BitVec 32) (x : FVec Ideal S256x512 .f32) (i0 i1 : IVec S256x1 32) (w0 w1 : Vec Ideal S256x1 .f32)
    (w : Vec Ideal S1x512x512 .bf16) (r : Fin 256) (f : Fin 512) :
    termV (F := Ideal) e x i0 i1 w0 w1 w (ix2 r f)
      = ∑ k : Fin 512, x (ix2 r k) * ((if i0 (ix2 r 0) = e then w0 (ix2 r 0) else 0) + (if i1 (ix2 r 0) = e then w1 (ix2 r 0) else 0)) * w (ix3 0 k f) := by
  pointwise [termV, coefV]
  simp only [select_cmpi_eq]

/-- The four experts' contributions, with the words that name them. -/
theorem chunk_apply (my : BitVec 32) (x : Vec Ideal S256x512 .f32) (i0 i1 : Vec Ideal S256x1 .i32) (w0 w1 : Vec Ideal S256x1 .f32)
    (u : Fin 4 → Vec Ideal S1x512x512 .bf16) (r : Fin 256) (f : Fin 512) :
    chunkV (F := Ideal) my x i0 i1 w0 w1 (u 0) (u 1) (u 2) (u 3) (ix2 r f)
      = ∑ j : Fin 4, ∑ k : Fin 512, x (ix2 r k) * ((if i0 (ix2 r 0) = expertWord my (BitVec.ofNat 32 j.val) then w0 (ix2 r 0) else 0)
          + (if i1 (ix2 r 0) = expertWord my (BitVec.ofNat 32 j.val) then w1 (ix2 r 0) else 0)) * u j (ix3 0 k f) := by
  pointwise [chunkV, term_apply]
  rw [Fin.sum_univ_four]
  rfl

/-- The word that names a device's expert is the expert's number among all of them. -/
theorem expertWord_eq (c : Dev nD) (j : Fin 4) : expertWord (myWord c) (BitVec.ofNat 32 j.val) = BitVec.ofNat 32 (expertOf c j).val := by
  revert c j
  decide

/-- Experts' numbers differ as words just when they differ. -/
theorem word_inj (e e' : Fin 32) : BitVec.ofNat 32 e.val = BitVec.ofNat 32 e'.val ↔ e' = e := by
  constructor
  · intro h
    have h' := congrArg BitVec.toNat h
    simp only [BitVec.toNat_ofNat] at h'
    have := e.isLt
    have := e'.isLt
    exact Fin.ext (by omega)
  · rintro rfl; rfl

/-- What the devices hold: the same activations, router and routing table on each, the table's words naming experts, and of all
    the weights each device its own four experts'. -/
structure Holds (X : FVec Ideal S2048x512 .f32) (R : FVec Ideal S512x32 .f32) (E : Fin 2048 → Fin 2 → Fin 32)
    (W : Fin 32 → Fin 512 → Fin 1024 → EReal) : Prop where
  x : ∀ c : Dev nD, m ((c : Thread nD τ).loc main_arg0) = X
  r : ∀ c : Dev nD, m ((c : Thread nD τ).loc main_arg1) = R
  i : ∀ (c : Dev nD) (t : Fin 2048) (j : Fin 2), (m ((c : Thread nD τ).loc main_arg2) : IVec S2048x2 32) (ix2 t j) = BitVec.ofNat 32 (E t j).val
  w : ∀ (c : Dev nD) (j : Fin 4) (q : Fin 512) (f : Fin 1024),
    (m ((c : Thread nD τ).loc main_arg3) : FVec Ideal S4x512x1024 .f32) (ix3 j q f) = W (expertOf c j) q f
  xr : ∀ i, IsReal (X i)
  rr : ∀ i, IsReal (R i)

variable {m}
variable {X : FVec Ideal S2048x512 .f32} {R : FVec Ideal S512x32 .f32} {E : Fin 2048 → Fin 2 → Fin 32}
  {W : Fin 32 → Fin 512 → Fin 1024 → EReal}

/-- A token's gates as stored: the gate of its choice `j`. -/
theorem gbuf_apply (H : Holds m X R E W) (c : Dev nD) (t : Fin 2048) (j : Fin 2) :
    (gbuf m c : FVec Ideal S2048x2 .f32) (ix2 t j) = gateOf X R t (E t j) (E t 0) (E t 1) := by
  have h0 : icol m c 0 (by decide) (ix2 t 0) = BitVec.ofNat 32 (E t 0).val := by
    unfold icol; rw [istg_eq]; exact (icol_read 0 _ _ t).trans (H.i c t 0)
  have h1 : icol m c 1 (by decide) (ix2 t 0) = BitVec.ofNat 32 (E t 1).val := by
    unfold icol; rw [istg_eq]; exact (icol_read 1 _ _ t).trans (H.i c t 1)
  have ht : ix1 t = ix2 t 0 := by funext a; fin_cases a <;> rfl
  have hx := (xstg_eq m c).trans (H.x c)
  have hr := (rstg_eq m c).trans (H.r c)
  match j with
  | 0 =>
    show gate0 m c (ix1 t) = _
    rw [ht, gate0, hx, hr]
    exact pay8_apply X R _ _ t _ _ h0 h1
  | 1 =>
    show gate1 m c (ix1 t) = _
    rw [ht, gate1, hx, hr]
    exact pay9_apply X R _ _ t _ _ h0 h1

/-- What expert `e` gives token `t` at column `f`: the token's product with its weights, weighed. -/
def given (X : FVec Ideal S2048x512 .f32) (R : FVec Ideal S512x32 .f32) (E : Fin 2048 → Fin 2 → Fin 32)
    (W : Fin 32 → Fin 512 → Fin 1024 → EReal) (t : Fin 2048) (f : Fin 1024) (e : Fin 32) : EReal :=
  weightOf (E t 0) (E t 1) (gateOf X R t (E t 0) (E t 0) (E t 1)) (gateOf X R t (E t 1) (E t 0) (E t 1)) e
    * ∑ q : Fin 512, X (ix2 t q) * W e q f

/-- A token's result at a column: its product with each of its choices' weights, weighed by the choice's gate. -/
def mixed (X : FVec Ideal S2048x512 .f32) (R : FVec Ideal S512x32 .f32) (E : Fin 2048 → Fin 2 → Fin 32)
    (W : Fin 32 → Fin 512 → Fin 1024 → EReal) (t : Fin 2048) (f : Fin 1024) : EReal :=
  gateOf X R t (E t 0) (E t 0) (E t 1) * ∑ q : Fin 512, X (ix2 t q) * W (E t 0) q f
    + gateOf X R t (E t 1) (E t 0) (E t 1) * ∑ q : Fin 512, X (ix2 t q) * W (E t 1) q f

/-- A device's contribution to a chunk: what its four experts give. -/
theorem partV_apply (H : Holds m X R E W) (d : Bool) (c : Dev nD) (k : ℕ) (hk : k < 8) (r : Fin 256) (f : Fin 512) :
    partV m d c k hk (ix2 r f) = ∑ j : Fin 4, given X R E W (tok k hk r) (col d f) (expertOf c j) := by
  have hx := (xstg_eq m c).trans (H.x c)
  have h0 : iM.view.readAt (Elt Ideal) (cellsR k hk 0 (by decide)).toLoadRect (istg m c) (ix2 r 0) = BitVec.ofNat 32 (E (tok k hk r) 0).val := by
    rw [istg_eq]; exact (icells_read k hk 0 _ _ r).trans (H.i c _ 0)
  have h1 : iM.view.readAt (Elt Ideal) (cellsR k hk 1 (by decide)).toLoadRect (istg m c) (ix2 r 0) = BitVec.ofNat 32 (E (tok k hk r) 1).val := by
    rw [istg_eq]; exact (icells_read k hk 1 _ _ r).trans (H.i c _ 1)
  have hw : ∀ j q f, (wbuf m c : FVec Ideal S4x512x1024 .bf16) (ix3 j q f) = W (expertOf c j) q f := by
    intro j q f
    unfold wbuf
    rw [estg_eq]
    pointwise [k0_pay10]
    exact H.w c j q f
  unfold partV
  refine (chunk_apply (myWord c) _ _ _ _ _ (fun j : Fin 4 => wM.view.readAt (Elt Ideal) (weightsR d j.val j.isLt).toLoadRect (wbuf m c)) r f).trans ?_
  refine Finset.sum_congr rfl fun j _ => ?_
  have hg0 := (gcells_read k hk 0 (by decide) (gbuf m c) r).trans (gbuf_apply H c (tok k hk r) 0)
  have hg1 := (gcells_read k hk 1 (by decide) (gbuf m c) r).trans (gbuf_apply H c (tok k hk r) 1)
  unfold given
  rw [← weighed_product _ (weightOf_nonneg _ _ _ (gateOf_pos H.xr H.rr _ _ _ _) (gateOf_pos H.xr H.rr _ _ _ _))
    (weightOf_ne_top _ _ _ (gateOf_pos H.xr H.rr _ _ _ _) (gateOf_pos H.xr H.rr _ _ _ _))]
  refine Finset.sum_congr rfl fun q _ => ?_
  rw [hg0, hg1, h0, h1, expertWord_eq, hx, rows_read, weights_read, hw]
  simp only [word_inj]
  rfl

/-! ## Around the ring -/

/-- Eight turns, each taken by the next device on the way round and all at device `c`'s chunk, gather every device's value. -/
theorem ring_sum (d : Bool) (c : Dev nD) (a : ℕ → Dev nD → EReal) (v : Dev nD → EReal)
    (h : ∀ n c', tgt d n c' = c.val → a n c' = v c') :
    a 0 (origin d (origin d (origin d (origin d (origin d (origin d (origin d c)))))))
        + a 1 (origin d (origin d (origin d (origin d (origin d (origin d c))))))
        + a 2 (origin d (origin d (origin d (origin d (origin d c)))))
        + a 3 (origin d (origin d (origin d (origin d c))))
        + a 4 (origin d (origin d (origin d c)))
        + a 5 (origin d (origin d c))
        + a 6 (origin d c)
        + a 7 c = ∑ c', v c' := by
  rw [h 0 _ (by clear h; revert d c; decide), h 1 _ (by clear h; revert d c; decide), h 2 _ (by clear h; revert d c; decide), h 3 _ (by clear h; revert d c; decide),
    h 4 _ (by clear h; revert d c; decide), h 5 _ (by clear h; revert d c; decide), h 6 _ (by clear h; revert d c; decide), h 7 _ (by clear h; revert d c; decide)]
  clear h
  have key : ∀ e : Fin 8 ≃ Fin 8, (∀ i : Fin 8, e i = Nat.iterate (origin d) (7 - i.val) c) →
      v (e 0) + v (e 1) + v (e 2) + v (e 3) + v (e 4) + v (e 5) + v (e 6) + v (e 7) = ∑ c', v c' →
      v (origin d (origin d (origin d (origin d (origin d (origin d (origin d c)))))))
        + v (origin d (origin d (origin d (origin d (origin d (origin d c))))))
        + v (origin d (origin d (origin d (origin d (origin d c)))))
        + v (origin d (origin d (origin d (origin d c)))) + v (origin d (origin d (origin d c)))
        + v (origin d (origin d c)) + v (origin d c) + v c = ∑ c', v c' := by
    intro e he hs
    rw [he 0, he 1, he 2, he 3, he 4, he 5, he 6, he 7] at hs
    exact hs
  have hsum : ∀ e : Fin 8 ≃ Fin 8, v (e 0) + v (e 1) + v (e 2) + v (e 3) + v (e 4) + v (e 5) + v (e 6) + v (e 7) = ∑ c', v c' := by
    intro e
    refine Eq.trans ?_ (Equiv.sum_comp e v)
    rw [Fin.sum_univ_eight]
  cases d
  · exact key (Equiv.addLeft ((c : Fin 8) + 1)) (by intro i; clear key; revert c i; decide) (hsum _)
  · exact key (Equiv.subLeft ((c : Fin 8) - 1)) (by intro i; clear key; revert c i; decide) (hsum _)

/-- What a device passes on, one turn after another, and at last its result: the sum of the devices' contributions to its chunk. -/
theorem outV_apply (H : Holds m X R E W) (d : Bool) (c : Dev nD) (r : Fin 256) (f : Fin 512) :
    outV m d c (ix2 r f) = ∑ e : Fin 32, given X R E W (tok c.val c.isLt r) (col d f) e := by
  rw [← sum_devices]
  have hacc : ∀ n c, accV m d (n + 1) c (ix2 r f) = accV m d n (origin d c) (ix2 r f) + turnV m d (n + 1) c (ix2 r f) := fun n c => rfl
  have hacc0 : ∀ c, accV m d 0 c (ix2 r f) = turnV m d 0 c (ix2 r f) := fun c => rfl
  have hout : outV m d c (ix2 r f) = accV m d 6 (origin d c) (ix2 r f) + turnV m d 7 c (ix2 r f) := rfl
  have hturn : ∀ n c' k hk, tgt d n c' = k → turnV m d n c' (ix2 r f) = ∑ j : Fin 4, given X R E W (tok k hk r) (col d f) (expertOf c' j) := by
    rintro n c' k hk rfl
    exact partV_apply H d c' _ _ r f
  simp only [hout, hacc, hacc0]
  generalize hv : (fun c' : Fin 8 => ∑ j : Fin 4, given X R E W (tok c.val c.isLt r) (col d f) (expertOf c' j)) = v
  have hturn' : ∀ n c', tgt d n c' = c.val → turnV m d n c' (ix2 r f) = v c' := by
    intro n c' h
    rw [← hv]
    exact hturn n c' c.val c.isLt h
  exact (ring_sum d c (fun n c' => turnV m d n c' (ix2 r f)) v hturn')

/-- Device `c`'s result: at a row of its chunk and a column, what the token's two choices give. -/
theorem outAt_apply (H : Holds m X R E W) (c : Dev nD) (r : Fin 256) (f : Fin 1024) :
    (outAt m c : FVec Ideal S256x1024 .f32) (ix2 r f) = mixed X R E W (tok c.val c.isLt r) f := by
  have hsum : ∑ e : Fin 32, given X R E W (tok c.val c.isLt r) f e = mixed X R E W (tok c.val c.isLt r) f :=
    sum_weightOf _ _ (gateOf_pos H.xr H.rr _ _ _ _) (gateOf_pos H.xr H.rr _ _ _ _) _
  have hix : ∀ k : Fin 512, ixH r k = ix2 r k := fun k => by funext a; fin_cases a <;> rfl
  rw [← hsum]
  show (if h : f.val < 512 then outV m false c (ixH r ⟨f.val, h⟩) else outV m true c (ixH r ⟨f.val - 512, _⟩)) = _
  split
  · rename_i h
    rw [hix, outV_apply H]
    have : col false ⟨f.val, h⟩ = f := Fin.ext (Nat.zero_add _)
    rw [this]
  · rename_i h
    rw [hix, outV_apply H]
    have : col true ⟨f.val - 512, by have := f.isLt; omega⟩ = f := Fin.ext (by show 512 + (f.val - 512) = f.val; omega)
    rw [this]

end Cert.Moe

end
-- ==== Proof.Plain.lean ====
/-
  The reference's value over the extended reals, read at a token and a column: its pieces by name, each read at an index,
  and the whole.
-/
module

public import proofs.«01_k».proof.Proof.Gen.ReferenceIdeal.Run
public import proofs.«01_k».proof.Proof.Parts
public import Idealize.ShloMosaic.Lib.Pointwise
public import Idealize.ShloMosaic.Lib.IdealHost

@[expose] public section

set_option maxRecDepth 40000

noncomputable section

namespace Cert.MoePlain

open Cert.ReferenceIdeal Cert.ReferenceIdeal.Gen
open Idealize.ShloMosaic Idealize.ShloMosaic.TcCoe
open Idealize.SL Idealize.SL.Sem
open Cert.Moe (prob expo best score gateOf mixed ofBits_bot)
open scoped BigOperators

/-! ## The pieces -/

/-- The scores. -/
def scores (x : FVec Ideal S2048x512 .f32) (r : FVec Ideal S512x32 .f32) : FVec Ideal S2048x32 .f32 :=
  Host.dotGeneral dot_S2048x512_S512x32_S2048x32_1_0_0_1_n_n none x r

/-- The exponentials of the scores' distances to the best. -/
def expos (x : FVec Ideal S2048x512 .f32) (r : FVec Ideal S512x32 .f32) : FVec Ideal S2048x32 .f32 :=
  Host.exp (subf (scores x r) (broadcastInDim S2048x32 ![0, 1] bcast_S2048x1_S2048x32_0_1 (broadcastInDim S2048x1 ![0] bcast_S2048_S2048x1_0
    (Host.reduce FloatOps.maximumf (scores x r) (constant S_ .f32 0xFF800000#32) reducesTo_S2048x32_S2048_d1 h_S_))))

/-- The probabilities. -/
def probs (x : FVec Ideal S2048x512 .f32) (r : FVec Ideal S512x32 .f32) : FVec Ideal S2048x32 .f32 :=
  Host.divf (expos x r) (broadcastInDim S2048x32 ![0, 1] bcast_S2048x1_S2048x32_0_1 (broadcastInDim S2048x1 ![0] bcast_S2048_S2048x1_0
    (Host.reduceAdd (expos x r) (constant S_ .f32 0x00000000#32) reducesTo_S2048x32_S2048_d1 h_S_)))

/-- The tokens' first choices. -/
def choice0 (i : IVec S2048x2 32) : IVec S2048 32 :=
  shapeCast S2048 (extractStridedSlice S2048x1 ![0, 0] i slices_S2048x2_S2048x1_0_0) shapeCasts_S2048x1_S2048
/-- Their second choices. -/
def choice1 (i : IVec S2048x2 32) : IVec S2048 32 :=
  shapeCast S2048 (extractStridedSlice S2048x1 ![0, 1] i slices_S2048x2_S2048x1_0_1) shapeCasts_S2048x1_S2048

/-- Positions along an axis of extent `n`, the negative ones counted from its end. -/
def fromEnd (n : BitVec 32) (v : IVec S2048 32) : IVec S2048x1 32 :=
  broadcastInDim S2048x1 ![0] bcast_S2048_S2048x1_0
    (select (cmpi .slt v (broadcastInDim S2048 ![] bcast_S_S2048 (constantI S_ 32 0#32)))
      (addi v (broadcastInDim S2048 ![] bcast_S_S2048 (constantI S_ 32 n))) v)

/-- The pairs of a token and its choice. -/
def pairs (v : IVec S2048 32) : IVec S2048x2 32 :=
  concatenate S2048x2 1 [⟨S2048x1, fromEnd 2048#32 (iotaInDim S2048 32 0)⟩, ⟨S2048x1, fromEnd 32#32 v⟩] concatenates_S2048x1_S2048x1_S2048x2_d1

/-- The probability of each token's choice. -/
def picked (x : FVec Ideal S2048x512 .f32) (r : FVec Ideal S512x32 .f32) (v : IVec S2048 32) : FVec Ideal S2048 .f32 :=
  Host.gather gather_S2048x32_S2048x2_S2048_n_01_n_n_01_1_11 (probs x r) (pairs v)

/-- Each token's product with its choice's weights. -/
def product (x : FVec Ideal S2048x512 .f32) (w : FVec Ideal S32x512x1024 .f32) (v : IVec S2048 32) : FVec Ideal S2048x1024 .f32 :=
  Host.dotGeneral dot_S2048x512_S2048x512x1024_S2048x1024_1_1_n_2_0_0 none x
    (Host.gather gather_S32x512x1024_S2048x1_S2048x512x1024_12_0_n_n_0_1_15121024 w (fromEnd 32#32 v))

/-- A product, weighed by its choice's gate. -/
def weighed (p s : FVec Ideal S2048 .f32) (y : FVec Ideal S2048x1024 .f32) : FVec Ideal S2048x1024 .f32 :=
  mulf (broadcastInDim S2048x1024 ![0, 1] bcast_S2048x1_S2048x1024_0_1 (broadcastInDim S2048x1 ![0] bcast_S2048_S2048x1_0 (Host.divf p s))) y

/-- The reference's result is put together from these pieces. -/
theorem result_eq (m : (ℓ : Loc nD τ sig) → Buf (Elt Ideal) ℓ) (c : Dev nD) :
    Value.res_out0 m c
      = (addf (weighed (picked (m ((c.tc : Thread nD τ).loc main_arg0)) (m ((c.tc : Thread nD τ).loc main_arg1)) (choice0 (m ((c.tc : Thread nD τ).loc main_arg2))))
            (addf (picked (m ((c.tc : Thread nD τ).loc main_arg0)) (m ((c.tc : Thread nD τ).loc main_arg1)) (choice0 (m ((c.tc : Thread nD τ).loc main_arg2))))
              (picked (m ((c.tc : Thread nD τ).loc main_arg0)) (m ((c.tc : Thread nD τ).loc main_arg1)) (choice1 (m ((c.tc : Thread nD τ).loc main_arg2)))))
            (product (m ((c.tc : Thread nD τ).loc main_arg0)) (m ((c.tc : Thread nD τ).loc main_arg3)) (choice0 (m ((c.tc : Thread nD τ).loc main_arg2)))))
          (weighed (picked (m ((c.tc : Thread nD τ).loc main_arg0)) (m ((c.tc : Thread nD τ).loc main_arg1)) (choice1 (m ((c.tc : Thread nD τ).loc main_arg2))))
            (addf (picked (m ((c.tc : Thread nD τ).loc main_arg0)) (m ((c.tc : Thread nD τ).loc main_arg1)) (choice0 (m ((c.tc : Thread nD τ).loc main_arg2))))
              (picked (m ((c.tc : Thread nD τ).loc main_arg0)) (m ((c.tc : Thread nD τ).loc main_arg1)) (choice1 (m ((c.tc : Thread nD τ).loc main_arg2)))))
            (product (m ((c.tc : Thread nD τ).loc main_arg0)) (m ((c.tc : Thread nD τ).loc main_arg3)) (choice1 (m ((c.tc : Thread nD τ).loc main_arg2))))) : FVec Ideal S2048x1024 .f32) := by
  show Value.res_main_v68 m c = _
  unfold Value.res_main_v68
  rfl

/-! ## Each at an index -/

/-- The probabilities. -/
theorem probs_apply (x : FVec Ideal S2048x512 .f32) (r : FVec Ideal S512x32 .f32) (t : Fin 2048) (e : Fin 32) :
    probs x r (ix2 t e) = prob x r t e := by
  pointwise [probs, expos, scores, prob, expo, best, score]
  rw [ofBits_bot]

/-- A token's first choice. -/
theorem choice0_apply (i : IVec S2048x2 32) (t : Fin 2048) : choice0 i (ix1 t) = i (ix2 t 0) := by
  pointwise [choice0]

/-- Its second choice. -/
theorem choice1_apply (i : IVec S2048x2 32) (t : Fin 2048) : choice1 i (ix1 t) = i (ix2 t 1) := by
  pointwise [choice1]

/-- A small word's signed value. -/
theorem toInt_small (k : ℕ) (hk : k < 2 ^ 31) : (BitVec.ofNat 32 k).toInt = (k : ℤ) := by
  rw [BitVec.toInt_eq_toNat_cond, BitVec.toNat_ofNat, Nat.mod_eq_of_lt (by omega), if_pos (by omega)]

/-- A position that is not negative stays. -/
theorem fromEnd_apply (n : BitVec 32) (v : IVec S2048 32) (t : Fin 2048) (k : ℕ) (hk : k < 2 ^ 31) (hv : v (ix1 t) = BitVec.ofNat 32 k) :
    fromEnd n v (ix2 t 0) = BitVec.ofNat 32 k := by
  pointwise [fromEnd]
  rw [hv]
  have h : IntOp.cmpi .slt (BitVec.ofNat 32 k) 0#32 = 0#1 := by
    have hn : ¬ (BitVec.ofNat 32 k).toInt < 0 := by
      rw [toInt_small k hk]
      omega
    show BitVec.ofBool ((BitVec.ofNat 32 k).slt 0#32) = 0#1
    rw [BitVec.slt, show (0#32 : BitVec 32).toInt = 0 from rfl, decide_eq_false hn]
    rfl
  rw [h]
  rfl

/-- A weighed product. -/
theorem weighed_apply (p s : FVec Ideal S2048 .f32) (y : FVec Ideal S2048x1024 .f32) (t : Fin 2048) (f : Fin 1024) :
    weighed p s y (ix2 t f) = Ideal.div (p (ix1 t)) (s (ix1 t)) * y (ix2 t f) := by
  pointwise [weighed]

/-- A pair's first word is the token. -/
theorem pairs0_apply (v : IVec S2048 32) (t : Fin 2048) : pairs v (ix2 t 0) = BitVec.ofNat 32 t.val := by
  pointwise [pairs]
  exact fromEnd_apply _ _ t t.val (by have := t.isLt; omega) rfl

/-- A pair's second word is the choice. -/
theorem pairs1_apply (v : IVec S2048 32) (t : Fin 2048) (e : Fin 32) (hv : v (ix1 t) = BitVec.ofNat 32 e.val) :
    pairs v (ix2 t 1) = BitVec.ofNat 32 e.val := by
  pointwise [pairs]
  exact fromEnd_apply _ _ t e.val (by have := e.isLt; omega) hv

/-! ## Indexing -/

/-- Indexing by pairs reads the pair's row and column. -/
theorem gather_pairs (y : FVec Ideal S2048x32 .f32) (idx : IVec S2048x2 32) (t : Fin 2048) (e : Fin 32)
    (h0 : idx (ix2 t 0) = BitVec.ofNat 32 t.val) (h1 : idx (ix2 t 1) = BitVec.ofNat 32 e.val) :
    Host.gather gather_S2048x32_S2048x2_S2048_n_01_n_n_01_1_11 y idx (ix1 t) = y (ix2 t e) := by
  unfold Host.gather
  refine congrArg y (funext fun a => Fin.ext ?_)
  have ht := t.isLt
  have he := e.isLt
  match a with
  | ⟨0, _⟩ =>
    show GatherDims.start gather_S2048x32_S2048x2_S2048_n_01_n_n_01_1_11 (ix1 t) idx 0 + 0 + 0 = t.val
    have hs : GatherDims.siIdx gather_S2048x32_S2048x2_S2048_n_01_n_n_01_1_11 (ix1 t) (0 : Fin 2) = ix2 t 0 := by
      funext b; fin_cases b <;> rfl
    have : GatherDims.start gather_S2048x32_S2048x2_S2048_n_01_n_n_01_1_11 (ix1 t) idx 0
        = min (idx (GatherDims.siIdx gather_S2048x32_S2048x2_S2048_n_01_n_n_01_1_11 (ix1 t) (0 : Fin 2))).toInt.toNat (2048 - 1) := rfl
    rw [this, hs, h0, toInt_small _ (by omega)]
    omega
  | ⟨1, _⟩ =>
    show GatherDims.start gather_S2048x32_S2048x2_S2048_n_01_n_n_01_1_11 (ix1 t) idx 1 + 0 + 0 = e.val
    have hs : GatherDims.siIdx gather_S2048x32_S2048x2_S2048_n_01_n_n_01_1_11 (ix1 t) (1 : Fin 2) = ix2 t 1 := by
      funext b; fin_cases b <;> rfl
    have : GatherDims.start gather_S2048x32_S2048x2_S2048_n_01_n_n_01_1_11 (ix1 t) idx 1
        = min (idx (GatherDims.siIdx gather_S2048x32_S2048x2_S2048_n_01_n_n_01_1_11 (ix1 t) (1 : Fin 2))).toInt.toNat (32 - 1) := rfl
    rw [this, hs, h1, toInt_small _ (by omega)]
    omega

/-- Indexing the experts' weights by the choices reads the choice's. -/
theorem gather_experts (w : FVec Ideal S32x512x1024 .f32) (idx : IVec S2048x1 32) (t : Fin 2048) (q : Fin 512) (f : Fin 1024) (e : Fin 32)
    (h : idx (ix2 t 0) = BitVec.ofNat 32 e.val) :
    Host.gather gather_S32x512x1024_S2048x1_S2048x512x1024_12_0_n_n_0_1_15121024 w idx (ix3 t q f) = w (ix3 e q f) := by
  unfold Host.gather
  refine congrArg w (funext fun a => Fin.ext ?_)
  have he := e.isLt
  match a with
  | ⟨0, _⟩ =>
    show GatherDims.start gather_S32x512x1024_S2048x1_S2048x512x1024_12_0_n_n_0_1_15121024 (ix3 t q f) idx 0 + 0 + 0 = e.val
    have hs : GatherDims.siIdx gather_S32x512x1024_S2048x1_S2048x512x1024_12_0_n_n_0_1_15121024 (ix3 t q f) (0 : Fin 1) = ix2 t 0 := by
      funext b; fin_cases b <;> rfl
    have : GatherDims.start gather_S32x512x1024_S2048x1_S2048x512x1024_12_0_n_n_0_1_15121024 (ix3 t q f) idx 0
        = min (idx (GatherDims.siIdx gather_S32x512x1024_S2048x1_S2048x512x1024_12_0_n_n_0_1_15121024 (ix3 t q f) (0 : Fin 1))).toInt.toNat (32 - 1) := rfl
    rw [this, hs, h, toInt_small _ (by omega)]
    omega
  | ⟨1, _⟩ => exact Nat.zero_add _
  | ⟨2, _⟩ => exact Nat.zero_add _

/-- The probability of a token's choice. -/
theorem picked_apply (x : FVec Ideal S2048x512 .f32) (r : FVec Ideal S512x32 .f32) (v : IVec S2048 32) (t : Fin 2048) (e : Fin 32)
    (hv : v (ix1 t) = BitVec.ofNat 32 e.val) : picked x r v (ix1 t) = prob x r t e :=
  (gather_pairs _ _ t e (pairs0_apply v t) (pairs1_apply v t e hv)).trans (probs_apply x r t e)

/-- A token's product with its choice's weights. -/
theorem product_apply (x : FVec Ideal S2048x512 .f32) (w : FVec Ideal S32x512x1024 .f32) (v : IVec S2048 32) (t : Fin 2048) (f : Fin 1024)
    (e : Fin 32) (hv : v (ix1 t) = BitVec.ofNat 32 e.val) :
    product x w v (ix2 t f) = ∑ q : Fin 512, x (ix2 t q) * w (ix3 e q f) := by
  pointwise [product]
  refine Finset.sum_congr rfl fun q _ => ?_
  rw [gather_experts w _ t q f e (fromEnd_apply _ v t e.val (by have := e.isLt; omega) hv)]

/-- The reference's result at a token and a column: what the token's two choices give. -/
theorem result_apply (m : (ℓ : Loc nD τ sig) → Buf (Elt Ideal) ℓ) (c : Dev nD) (X : FVec Ideal S2048x512 .f32) (R : FVec Ideal S512x32 .f32)
    (I : IVec S2048x2 32) (V : FVec Ideal S32x512x1024 .f32)
    (hX : m ((c.tc : Thread nD τ).loc main_arg0) = X) (hR : m ((c.tc : Thread nD τ).loc main_arg1) = R)
    (hI : m ((c.tc : Thread nD τ).loc main_arg2) = I) (hV : m ((c.tc : Thread nD τ).loc main_arg3) = V)
    (E : Fin 2048 → Fin 2 → Fin 32) (hE : ∀ t j, I (ix2 t j) = BitVec.ofNat 32 (E t j).val) (t : Fin 2048) (f : Fin 1024) :
    (Value.res_out0 m c : FVec Ideal S2048x1024 .f32) (ix2 t f) = mixed X R E (fun e q f => V (ix3 e q f)) t f := by
  rw [result_eq, hX, hR, hI, hV]
  have h0 : choice0 I (ix1 t) = BitVec.ofNat 32 (E t 0).val := (choice0_apply I t).trans (hE t 0)
  have h1 : choice1 I (ix1 t) = BitVec.ofNat 32 (E t 1).val := (choice1_apply I t).trans (hE t 1)
  pointwise [weighed_apply]
  rw [picked_apply X R _ t _ h0, picked_apply X R _ t _ h1, product_apply X V _ t f _ h0, product_apply X V _ t f _ h1]
  rfl

end Cert.MoePlain

end
-- ==== Proof.Equal.lean ====
/-
  The kernel's blocks are the blocks of the reference's result. The precondition is read first: finite activations, a finite
  router, and routing words that name experts; under it both values are, at every token and column, what the token's two
  choices give.
-/
module

public import proofs.«01_k».proof.Defs
public import proofs.«01_k».proof.Proof.Frames
public import proofs.«01_k».proof.Proof.Plain
public import Idealize.ShloMosaic.Lib.ReduceAll
public import Idealize.ShloMosaic.Lib.Layout

@[expose] public section

set_option maxRecDepth 40000

noncomputable section

namespace Cert.Moe

open Idealize.ShloMosaic Idealize.ShloMosaic.TcCoe
open Idealize.SL Idealize.SL.Sem

/-! ## The side conditions of the precondition -/

/-- The precondition's, of the kernel's blocks. -/
theorem pre_facts_kernel : Cert.Pre_finite_and_in_range_KernelIdeal.Facts where
  bcast_S_S2048x512 := by decide
  reducesTo_S2048x512_S_d0_1 := by decide
  h_S_ := by decide
  bcast_S_S512x32 := by decide
  reducesTo_S512x32_S_d0_1 := by decide
  bcast_S_S2048x2 := by decide
  reducesTo_S2048x2_S_d0_1 := by decide

/-- The precondition's, of the reference's arrays. -/
theorem pre_facts_reference : Cert.Pre_finite_and_in_range_ReferenceIdeal.Facts where
  bcast_S_S2048x512 := by decide
  reducesTo_S2048x512_S_d0_1 := by decide
  h_S_ := by decide
  bcast_S_S512x32 := by decide
  reducesTo_S512x32_S_d0_1 := by decide
  bcast_S_S2048x2 := by decide
  reducesTo_S2048x2_S_d0_1 := by decide

/-! ## The precondition, read -/

/-- An array of no axes has one cell. -/
instance : Subsingleton (⟨0, ![]⟩ : Shape).Idx := ⟨fun a b => funext fun k => k.elim0⟩

/-- The pattern of infinity is the greatest value. -/
theorem ofBits_top : Ideal.ofBits .f32 0x7F800000#32 = ⊤ := by simp [Ideal.ofBits, Ideal.ieee]

/-- A value whose magnitude compares below infinity is a real. -/
theorem isReal_of_cmp (a : EReal) (h : Ideal.cmp .olt (max a (-a)) (Ideal.ofBits .f32 0x7F800000#32) = 1#1) : IsReal a := by
  refine isReal_of_abs_lt ?_
  rw [ofBits_top] at h
  by_contra hn
  have : Ideal.cmp .olt (max a (-a)) ⊤ = BitVec.ofBool (decide (max a (-a) < ⊤)) := rfl
  rw [this, decide_eq_false hn] at h
  exact absurd h (by decide)

/-- A word between 0 and 31 is the word of an expert. -/
theorem expert_of_word (w : BitVec 32) (h0 : 0 ≤ w.toInt) (h1 : w.toInt < 32) : ∃ e : Fin 32, w = BitVec.ofNat 32 e.val := by
  have hlt := w.isLt
  have hn : w.toNat < 32 := by
    rw [BitVec.toInt_eq_toNat_cond] at h0 h1
    split at h0 <;> split at h1 <;> omega
  exact ⟨⟨w.toNat, hn⟩, BitVec.eq_of_toNat_eq (by rw [BitVec.toNat_ofNat, Nat.mod_eq_of_lt hlt])⟩

section
open Cert.KernelIdeal

/-- What the precondition says of one device's arrays. -/
theorem pre_read (X : FVec Ideal S2048x512 .f32) (R : FVec Ideal S512x32 .f32) (I : IVec S2048x2 32) (V : FVec Ideal S4x512x1024 .f32)
    (h : @Cert.Pre_finite_and_in_range_KernelIdeal.fn pre_facts_kernel Ideal _ X R I V = fun _ => 1#1) :
    (∀ i, IsReal (X i)) ∧ (∀ i, IsReal (R i)) ∧ ∀ t j, ∃ e : Fin 32, I (ix2 t j) = BitVec.ofNat 32 e.val := by
  have h' := congrFun h (fun k => k.elim0)
  dsimp only [Cert.Pre_finite_and_in_range_KernelIdeal.fn] at h'
  obtain ⟨h12, h3⟩ := IntOp.andi_eq_one.1 h'
  obtain ⟨h1, h2⟩ := IntOp.andi_eq_one.1 h12
  refine ⟨fun i => isReal_of_cmp _ (Host.reduce_andi_all _ _ _ _ _ h1 i), fun i => isReal_of_cmp _ (Host.reduce_andi_all _ _ _ _ _ h2 i), fun t j => ?_⟩
  obtain ⟨ha, hb⟩ := IntOp.andi_eq_one.1 (Host.reduce_andi_all _ _ _ _ _ h3 (ix2 t j))
  exact expert_of_word _ (IntOp.cmpi_sge.1 ha) (IntOp.cmpi_slt.1 hb)

end

/-! ## The claim -/

/-- Under the precondition every device's result is its block of the reference's. -/
theorem algebraic : @Cert.algebraic_KernelIdeal_ReferenceIdeal_pre_finite_and_in_range_KernelIdeal Cert.KernelIdeal.Gen.facts
    Cert.ReferenceIdeal.Gen.facts pre_facts_kernel := by
  intro m ρ m' ρ' hpre hargs
  obtain ⟨hX, hR, hI⟩ := pre_read _ _ _ _ (hpre 0)
  choose E hE using hI
  have e0 := (hargs 0).1
  have e1 := (hargs 0).2.1
  have e2 := (hargs 0).2.2.1
  rw [e0] at hX
  rw [e1] at hR
  rw [e2] at hE
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) E
      (fun e q f => (m' (((0 : Dev Cert.ReferenceIdeal.nD).tc : Thread Cert.ReferenceIdeal.nD Cert.ReferenceIdeal.τ).loc Cert.ReferenceIdeal.main_arg3)
        : FVec Ideal Cert.ReferenceIdeal.S32x512x1024 .f32) (ix3 e q f)) := by
    refine ⟨fun c => (hargs c).1, fun c => (hargs c).2.1, fun c t j => ?_, fun c j q f => ?_, hX, hR⟩
    · rw [(hargs c).2.2.1]; exact hE t j
    · rw [(hargs c).2.2.2]
      refine congrArg (m' (((0 : Dev Cert.ReferenceIdeal.nD).tc : Thread Cert.ReferenceIdeal.nD Cert.ReferenceIdeal.τ).loc Cert.ReferenceIdeal.main_arg3)
        : FVec Ideal Cert.ReferenceIdeal.S32x512x1024 .f32) (funext fun a => Fin.ext ?_)
      fin_cases a
      · show c.val * 4 + j.val = 4 * c.val + j.val; omega
      · rfl
      · rfl
  refine ⟨Cert.ReferenceIdeal.Value.res_out0 m' 0, ?_, ?_⟩
  · refine (θ_run Cert.KernelIdeal.defs _ _).mono (fun r h c => ⟨(h.1 c).1.trans ?_, (h.1 c).2⟩) (run_values (F := Ideal) m ρ)
    funext i
    obtain ⟨r, f, rfl⟩ : ∃ (r : Fin 256) (f : Fin 1024), i = ix2 r f := ⟨i 0, i 1, by funext a; fin_cases a <;> rfl⟩
    refine (outAt_apply H c r f).trans ?_
    refine (Cert.MoePlain.result_apply m' 0 _ _ _ _ rfl rfl rfl rfl E hE (tok c.val c.isLt r) f).symm.trans ?_
    refine congrArg (Cert.ReferenceIdeal.Value.res_out0 m' 0 : FVec Ideal Cert.ReferenceIdeal.S2048x1024 .f32) (funext fun a => Fin.ext ?_)
    fin_cases a
    · show 256 * c.val + r.val = c.val * 256 + r.val; omega
    · rfl
  · exact (θ_run Cert.ReferenceIdeal.defs _ _).mono (fun r h => h 0) (Cert.ReferenceIdeal.Value.run (F := Ideal) m' ρ')

/-- The kernel's frame, of the memories the precondition holds of; -/
theorem frame_kernelIdeal_pre : @Cert.quiescent_KernelIdeal_pre_finite_and_in_range_KernelIdeal Cert.KernelIdeal.Gen.facts pre_facts_kernel :=
  fun m ρ _ => frame_kernelIdeal m ρ trivial

/-- the reference's. -/
theorem frame_referenceIdeal_pre :
    @Cert.quiescent_ReferenceIdeal_pre_finite_and_in_range_ReferenceIdeal Cert.ReferenceIdeal.Gen.facts pre_facts_reference :=
  fun m ρ _ => frame_referenceIdeal m ρ trivial

end Cert.Moe

end
-- ==== Proof.lean ====
/-
  The certificate: the kernel and the reference run, leave their arguments and every semaphore counter as they were, and
  over the extended reals every device's result is its block of the reference's, for finite activations, a finite router
  and routing words that name experts.
-/
module

public import proofs.«01_k».proof.Proof.Gen.ReferenceIdeal.Run
public import proofs.«01_k».proof.Defs
public import proofs.«01_k».proof.Proof.Frames
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- All that is claimed. -/
theorem claim : Cert.Claim := ⟨Cert.Kernel.Gen.facts, Cert.KernelIdeal.Gen.facts, Cert.ReferenceIdeal.Gen.facts,
  Cert.Moe.pre_facts_kernel, Cert.Moe.pre_facts_reference,
  Cert.Moe.frame_kernel, Cert.Moe.frame_kernelIdeal, Cert.Moe.frame_kernelIdeal_pre, Cert.Moe.frame_referenceIdeal,
  Cert.Moe.frame_referenceIdeal_pre, trivial, Cert.Moe.algebraic⟩

end Cert.Proof

end
